-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 2] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![512]⟩ ⟨1, ![1024]⟩ (Layout.meshBlock [2, 2] ![[1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![2, 512, 1024]⟩ ⟨3, ![4, 512, 1024]⟩ (Layout.meshBlock [2, 2] ![[1], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![2, 1024, 512]⟩ ⟨3, ![4, 1024, 512]⟩ (Layout.meshBlock [2, 2] ![[1], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = Layout.blockN ⟨2, ![512, 512]⟩ ⟨2, ![1024, 512]⟩ (Layout.meshBlock [2, 2] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v49) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S512 : Shape := ⟨1, ![512]⟩
abbrev S2x512x1024 : Shape := ⟨3, ![2, 512, 1024]⟩
abbrev S2x1024x512 : Shape := ⟨3, ![2, 1024, 512]⟩
abbrev S512x1 : Shape := ⟨2, ![512, 1]⟩
abbrev S256x512 : Shape := ⟨2, ![256, 512]⟩
abbrev S14 : Shape := ⟨1, ![14]⟩
abbrev S_ : Shape := ⟨0, ![]⟩
abbrev S1 : Shape := ⟨1, ![1]⟩
abbrev S64x512 : Shape := ⟨2, ![64, 512]⟩
abbrev S64x1 : Shape := ⟨2, ![64, 1]⟩
abbrev S1x512x1024 : Shape := ⟨3, ![1, 512, 1024]⟩
abbrev S512x1024 : Shape := ⟨2, ![512, 1024]⟩
abbrev S64x1024 : Shape := ⟨2, ![64, 1024]⟩
abbrev S1x1024x512 : Shape := ⟨3, ![1, 1024, 512]⟩
abbrev S1024x512 : Shape := ⟨2, ![1024, 512]⟩

abbrev nBuf : Space → Nat
  | .hbm => 8
  | .vmem => 13
  | .smem => 0
  | _ => 0

abbrev bufTy : (tb : Table) → Fin (tcTables nBuf tb) → BufTy
  | .hbm, ⟨0, _⟩ => ⟨S512x512, .f32⟩
  | .hbm, ⟨1, _⟩ => ⟨S512, .i32⟩
  | .hbm, ⟨2, _⟩ => ⟨S2x512x1024, .f32⟩
  | .hbm, ⟨3, _⟩ => ⟨S2x1024x512, .f32⟩
  | .hbm, ⟨4, _⟩ => ⟨S512x1, .i32⟩
  | .hbm, ⟨5, _⟩ => ⟨S2x512x1024, .bf16⟩
  | .hbm, ⟨6, _⟩ => ⟨S2x1024x512, .bf16⟩
  | .hbm, ⟨7, _⟩ => ⟨S512x512, .bf16⟩
  | .local _ .vmem, ⟨0, _⟩ => ⟨S512x512, .f32⟩
  | .local _ .vmem, ⟨1, _⟩ => ⟨S512x1, .i32⟩
  | .local _ .vmem, ⟨2, _⟩ => ⟨S2x512x1024, .bf16⟩
  | .local _ .vmem, ⟨3, _⟩ => ⟨S2x1024x512, .bf16⟩
  | .local _ .vmem, ⟨4, _⟩ => ⟨S512x512, .bf16⟩
  | .local _ .vmem, ⟨5, _⟩ => ⟨S256x512, .bf16⟩
  | .local _ .vmem, ⟨6, _⟩ => ⟨S256x512, .bf16⟩
  | .local _ .vmem, ⟨7, _⟩ => ⟨S512x1, .i32⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 1 33 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_scratch7 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_7 : BitVec 32 := 2#32
  let v12 : BitVec 32 := Scalar.muli v6 c2_i32_7
  let v13 : BitVec 32 := Scalar.addi c0_i32 v12
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_8 : BitVec 32 := 1#32
  let v14 : BitVec 32 := Scalar.muli v5 c1_i32_8
  let v15 : BitVec 32 := Scalar.addi v13 v14
  v15.toNat
def k0_dev2 (d0 : Dev nD) : Nat :=
  let c0_i32_11 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_10 : BitVec 32 := 2#32
  let v16 : BitVec 32 := Scalar.muli v2 c2_i32_10
  let v17 : BitVec 32 := Scalar.addi c0_i32_11 v16
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_12 : BitVec 32 := 1#32
  let v18 : BitVec 32 := Scalar.muli v7 c1_i32_12
  let v19 : BitVec 32 := Scalar.addi v17 v18
  v19.toNat
def k0_dev3 (d0 : Dev nD) : Nat :=
  let c0_i32_15 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_14 : BitVec 32 := 2#32
  let v20 : BitVec 32 := Scalar.muli v8 c2_i32_14
  let v21 : BitVec 32 := Scalar.addi c0_i32_15 v20
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_16 : BitVec 32 := 1#32
  let v22 : BitVec 32 := Scalar.muli v9 c1_i32_16
  let v23 : BitVec 32 := Scalar.addi v21 v22
  v23.toNat
def k0_off1 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v10 : BitVec 32 := Scalar.muli v2 c256_i32
  let v24 : Index := Scalar.indexCast v10
  let c0 : Index := 0#32
  ![v24.toNat, 0]
def k0_dev4 (d0 : Dev nD) : Nat :=
  let c0_i32_22 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_21 : BitVec 32 := 2#32
  let v31 : BitVec 32 := Scalar.muli v2 c2_i32_21
  let v32 : BitVec 32 := Scalar.addi c0_i32_22 v31
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_23 : BitVec 32 := 1#32
  let v33 : BitVec 32 := Scalar.muli v7 c1_i32_23
  let v34 : BitVec 32 := Scalar.addi v32 v33
  v34.toNat
def k0_dev5 (d0 : Dev nD) : Nat :=
  let c0_i32_27 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_26 : BitVec 32 := 2#32
  let v39 : BitVec 32 := Scalar.muli v2 c2_i32_26
  let v40 : BitVec 32 := Scalar.addi c0_i32_27 v39
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_28 : BitVec 32 := 1#32
  let v41 : BitVec 32 := Scalar.muli v7 c1_i32_28
  let v42 : BitVec 32 := Scalar.addi v40 v41
  v42.toNat
def k0_off2 (d0 : Dev nD) (c0_i32_31 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v10 : BitVec 32 := Scalar.muli v2 c256_i32
  let v48 : BitVec 32 := Scalar.addi v10 c0_i32_31
  let v49 : Index := Scalar.indexCast v48
  let c0_32 : Index := 0#32
  ![v49.toNat, 0]
def k0_dev6 (d0 : Dev nD) : Nat :=
  let c0_i32_61 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_60 : BitVec 32 := 2#32
  let v93 : BitVec 32 := Scalar.muli v6 c2_i32_60
  let v94 : BitVec 32 := Scalar.addi c0_i32_61 v93
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_62 : BitVec 32 := 1#32
  let v95 : BitVec 32 := Scalar.muli v5 c1_i32_62
  let v96 : BitVec 32 := Scalar.addi v94 v95
  v96.toNat
def k0_dev7 (d0 : Dev nD) : Nat :=
  let c0_i32_99 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_98 : BitVec 32 := 2#32
  let v149 : BitVec 32 := Scalar.muli v6 c2_i32_98
  let v150 : BitVec 32 := Scalar.addi c0_i32_99 v149
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_100 : BitVec 32 := 1#32
  let v151 : BitVec 32 := Scalar.muli v5 c1_i32_100
  let v152 : BitVec 32 := Scalar.addi v150 v151
  v152.toNat
def k0_dev8 (d0 : Dev nD) : Nat :=
  let c0_i32_136 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_135 : BitVec 32 := 2#32
  let v205 : BitVec 32 := Scalar.muli v6 c2_i32_135
  let v206 : BitVec 32 := Scalar.addi c0_i32_136 v205
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_137 : BitVec 32 := 1#32
  let v207 : BitVec 32 := Scalar.muli v5 c1_i32_137
  let v208 : BitVec 32 := Scalar.addi v206 v207
  v208.toNat
def k0_dev9 (d0 : Dev nD) : Nat :=
  let c0_i32_173 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_172 : BitVec 32 := 2#32
  let v261 : BitVec 32 := Scalar.muli v6 c2_i32_172
  let v262 : BitVec 32 := Scalar.addi c0_i32_173 v261
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_174 : BitVec 32 := 1#32
  let v263 : BitVec 32 := Scalar.muli v5 c1_i32_174
  let v264 : BitVec 32 := Scalar.addi v262 v263
  v264.toNat
def k0_dev10 (d0 : Dev nD) : Nat :=
  let c0_i32_222 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_221 : BitVec 32 := 2#32
  let v328 : BitVec 32 := Scalar.muli v2 c2_i32_221
  let v329 : BitVec 32 := Scalar.addi c0_i32_222 v328
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_223 : BitVec 32 := 1#32
  let v330 : BitVec 32 := Scalar.muli v7 c1_i32_223
  let v331 : BitVec 32 := Scalar.addi v329 v330
  v331.toNat
def k0_dev11 (d0 : Dev nD) : Nat :=
  let c0_i32_230 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_229 : BitVec 32 := 2#32
  let v338 : BitVec 32 := Scalar.muli v8 c2_i32_229
  let v339 : BitVec 32 := Scalar.addi c0_i32_230 v338
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_231 : BitVec 32 := 1#32
  let v340 : BitVec 32 := Scalar.muli v9 c1_i32_231
  let v341 : BitVec 32 := Scalar.addi v339 v340
  v341.toNat
def k0_dev12 (d0 : Dev nD) : Nat :=
  let c0_i32_269 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_268 : BitVec 32 := 2#32
  let v393 : BitVec 32 := Scalar.muli v2 c2_i32_268
  let v394 : BitVec 32 := Scalar.addi c0_i32_269 v393
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_270 : BitVec 32 := 1#32
  let v395 : BitVec 32 := Scalar.muli v7 c1_i32_270
  let v396 : BitVec 32 := Scalar.addi v394 v395
  v396.toNat
def k0_dev13 (d0 : Dev nD) : Nat :=
  let c0_i32_277 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_276 : BitVec 32 := 2#32
  let v403 : BitVec 32 := Scalar.muli v8 c2_i32_276
  let v404 : BitVec 32 := Scalar.addi c0_i32_277 v403
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_278 : BitVec 32 := 1#32
  let v405 : BitVec 32 := Scalar.muli v9 c1_i32_278
  let v406 : BitVec 32 := Scalar.addi v404 v405
  v406.toNat
def k0_dev14 (d0 : Dev nD) : Nat :=
  let c0_i32_316 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_315 : BitVec 32 := 2#32
  let v458 : BitVec 32 := Scalar.muli v2 c2_i32_315
  let v459 : BitVec 32 := Scalar.addi c0_i32_316 v458
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_317 : BitVec 32 := 1#32
  let v460 : BitVec 32 := Scalar.muli v7 c1_i32_317
  let v461 : BitVec 32 := Scalar.addi v459 v460
  v461.toNat
def k0_dev15 (d0 : Dev nD) : Nat :=
  let c0_i32_324 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_323 : BitVec 32 := 2#32
  let v468 : BitVec 32 := Scalar.muli v8 c2_i32_323
  let v469 : BitVec 32 := Scalar.addi c0_i32_324 v468
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_325 : BitVec 32 := 1#32
  let v470 : BitVec 32 := Scalar.muli v9 c1_i32_325
  let v471 : BitVec 32 := Scalar.addi v469 v470
  v471.toNat
def k0_dev16 (d0 : Dev nD) : Nat :=
  let c0_i32_363 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_362 : BitVec 32 := 2#32
  let v523 : BitVec 32 := Scalar.muli v2 c2_i32_362
  let v524 : BitVec 32 := Scalar.addi c0_i32_363 v523
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_364 : BitVec 32 := 1#32
  let v525 : BitVec 32 := Scalar.muli v7 c1_i32_364
  let v526 : BitVec 32 := Scalar.addi v524 v525
  v526.toNat
def k0_dev17 (d0 : Dev nD) : Nat :=
  let c0_i32_371 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_370 : BitVec 32 := 2#32
  let v533 : BitVec 32 := Scalar.muli v8 c2_i32_370
  let v534 : BitVec 32 := Scalar.addi c0_i32_371 v533
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_372 : BitVec 32 := 1#32
  let v535 : BitVec 32 := Scalar.muli v9 c1_i32_372
  let v536 : BitVec 32 := Scalar.addi v534 v535
  v536.toNat
def k0_off3 (d0 : Dev nD) (c0_i32_392 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v10 : BitVec 32 := Scalar.muli v2 c256_i32
  let v556 : BitVec 32 := Scalar.addi v10 c0_i32_392
  let v557 : Index := Scalar.indexCast v556
  let c0_393 : Index := 0#32
  ![v557.toNat, 0]
def k0_off4 (d0 : Dev nD) (c0_i32_461 : BitVec 32) : Fin 2 → Nat :=
  let c1_i32_377 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v543 : BitVec 32 := Scalar.subi c1_i32_377 v2
  let c256_i32_378 : BitVec 32 := 256#32
  let v544 : BitVec 32 := Scalar.muli v543 c256_i32_378
  let v620 : BitVec 32 := Scalar.addi v544 c0_i32_461
  let v621 : Index := Scalar.indexCast v620
  let c0_462 : Index := 0#32
  ![v621.toNat, 0]
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1024x512 : Shape := ⟨2, ![1024, 512]⟩
abbrev S1024 : Shape := ⟨1, ![1024]⟩
abbrev S4x512x1024 : Shape := ⟨3, ![4, 512, 1024]⟩
abbrev S4x1024x512 : Shape := ⟨3, ![4, 1024, 512]⟩
abbrev S_ : Shape := ⟨0, ![]⟩
abbrev S1x512x1024 : Shape := ⟨3, ![1, 512, 1024]⟩
abbrev S512x1024 : Shape := ⟨2, ![512, 1024]⟩
abbrev S1024x1024 : Shape := ⟨2, ![1024, 1024]⟩
abbrev S1024x1 : Shape := ⟨2, ![1024, 1]⟩
abbrev S1x1024x512 : Shape := ⟨3, ![1, 1024, 512]⟩

abbrev nBuf : Space → Nat
  | .hbm => 67
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024, .i32⟩
  | .hbm, ⟨2, _⟩ => ⟨S4x512x1024, .f32⟩
  | .hbm, ⟨3, _⟩ => ⟨S4x1024x512, .f32⟩
  | .hbm, ⟨4, _⟩ => ⟨S_, .f32⟩
  | .hbm, ⟨5, _⟩ => ⟨S1024x512, .f32⟩
  | .hbm, ⟨6, _⟩ => ⟨S1x512x1024, .f32⟩
  | .hbm, ⟨7, _⟩ => ⟨S512x1024, .f32⟩
  | .hbm, ⟨8, _⟩ => ⟨S1024x1024, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S_, .i32⟩
  | .hbm, ⟨13, _⟩ => ⟨S1024, .i32⟩
  | .hbm, ⟨14, _⟩ => ⟨S1024, .i1⟩
  | .hbm, ⟨15, _⟩ => ⟨S1024x1, .i1⟩
  | .hbm, ⟨16, _⟩ => ⟨S1x1024x512, .f32⟩
  | .hbm, ⟨17, _⟩ => ⟨S1024x512, .f32⟩
  | .hbm, ⟨18, _⟩ => ⟨S1024x512, .f32⟩
  | .hbm, ⟨19, _⟩ => ⟨S1024x512, .i1⟩
  | .hbm, ⟨20, _⟩ => ⟨S1024x512, .f32⟩
  | .hbm, ⟨21, _⟩ => ⟨S1x512x1024, .f32⟩
  | .hbm, ⟨22, _⟩ => ⟨S512x1024, .f32⟩
  | .hbm, ⟨23, _⟩ => ⟨S1024x1024, .f32⟩
  | .hbm, ⟨24, _⟩ => ⟨S_, .f32⟩
  | .hbm, ⟨25, _⟩ => ⟨S1024x1024, .f32⟩
  | .hbm, ⟨26, _⟩ => ⟨S1024x1024, .f32⟩
  | .hbm, ⟨27, _⟩ => ⟨S_, .i32⟩
  | .hbm, ⟨28, _⟩ => ⟨S1024, .i32⟩
  | .hbm, ⟨29, _⟩ => ⟨S1024, .i1⟩
  | .hbm, ⟨30, _⟩ => ⟨S1024x1, .i1⟩
  | .hbm, ⟨31, _⟩ => ⟨S1x1024x512, .f32⟩
  | .hbm, ⟨32, _⟩ => ⟨S1024x512, .f32⟩
  | .hbm, ⟨33, _⟩ => ⟨S1024x512, .f32⟩
  | .hbm, ⟨34, _⟩ => ⟨S1024x512, .i1⟩
  | .hbm, ⟨35, _⟩ => ⟨S1024x512, .f32⟩
  | .hbm, ⟨36, _⟩ => ⟨S1x512x1024, .f32⟩
  | .hbm, ⟨37, _⟩ => ⟨S512x1024, .f32⟩
  | .hbm, ⟨38, _⟩ => ⟨S1024x1024, .f32⟩
  | .hbm, ⟨39, _⟩ => ⟨S_, .f32⟩
  | .hbm, ⟨40, _⟩ => ⟨S1024x1024, .f32⟩
  | .hbm, ⟨41, _⟩ => ⟨S1024x1024, .f32⟩
  | .hbm, ⟨42, _⟩ => ⟨S_, .i32⟩
  | .hbm, ⟨43, _⟩ => ⟨S1024, .i32⟩
  | .hbm, ⟨44, _⟩ => ⟨S1024, .i1⟩
  | .hbm, ⟨45, _⟩ => ⟨S1024x1, .i1⟩
  | .hbm, ⟨46, _⟩ => ⟨S1x1024x512, .f32⟩
  | .hbm, ⟨47, _⟩ => ⟨S1024x512, .f32⟩
  | .hbm, ⟨48, _⟩ => ⟨S1024x512, .f32⟩
  | .hbm, ⟨49, _⟩ => ⟨S1024x512, .i1⟩
  | .hbm, ⟨50, _⟩ => ⟨S1024x512, .f32⟩
  | .hbm, ⟨51, _⟩ => ⟨S1x512x1024, .f32⟩
  | .hbm, ⟨52, _⟩ => ⟨S512x1024, .f32⟩
  | .hbm, ⟨53, _⟩ => ⟨S1024x1024, .f32⟩
  | .hbm, ⟨54, _⟩ => ⟨S_, .f32⟩
  | .hbm, ⟨55, _⟩ => ⟨S1024x1024, .f32⟩
  | .hbm, ⟨56, _⟩ => ⟨S1024x1024, .f32⟩
  | .hbm, ⟨57, _⟩ => ⟨S_, .i32⟩
  | .hbm, ⟨58, _⟩ => ⟨S1024, .i32⟩
  | .hbm, ⟨59, _⟩ => ⟨S1024, .i1⟩
  | .hbm, ⟨60, _⟩ => ⟨S1024x1, .i1⟩
  | .hbm, ⟨61, _⟩ => ⟨S1x1024x512, .f32⟩
  | .hbm, ⟨62, _⟩ => ⟨S1024x512, .f32⟩
  | .hbm, ⟨63, _⟩ => ⟨S1024x512, .f32⟩
  | .hbm, ⟨64, _⟩ => ⟨S1024x512, .i1⟩
  | .hbm, ⟨65, _⟩ => ⟨S1024x512, .f32⟩
  | .hbm, ⟨66, _⟩ => ⟨S1024x512, .bf16⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call1_v0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_c_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_call2_v0 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_c_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call3_v0 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Proof.Contents.lean ====
/-
  What the buffers hold: the rows a chunk reads, a 256-row buffer glued from its four 64-row chunks, one chunk of the
  expert layer as the kernel computes it (whatever way the printed text cuts it into parts), and from these the contents
  that each buffer of a device has once it is filled, as functions of the four devices' staged arguments.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Regions
public import Idealize.ShloMosaic.Lib.Pipeline.RegionTalk
public import Idealize.ShloMosaic.Lib.Pipeline.Kit
public import Idealize.ShloMosaic.Lib.Pipeline.Value
public import Idealize.ShloMosaic.Lib.Rounds
public import Idealize.ShloMosaic.Lib.Tactic

@[expose] public section

noncomputable section

namespace Cert.MoeProof

open Cert.KernelIdeal Cert.KernelIdeal.Gen
open Idealize.ShloMosaic
open Idealize.ShloMosaic.TcCoe
open Idealize.SL.Sem

variable {F : FTy → Type} [FloatOps F]

/-! ## The devices beside a device -/

set_option backward.proofsInPublic true in
/-- The device across the first mesh axis, -/
def xn (c : Dev nD) : Dev nD := ⟨((c.val % 2) + 2) - 2 * (c.val / 2), by have := c.isLt; simp only [nD] at *; omega⟩
set_option backward.proofsInPublic true in
/-- across the second, -/
def yn (c : Dev nD) : Dev nD := ⟨(2 * (c.val / 2) + 1) - (c.val % 2), by have := c.isLt; simp only [nD] at *; omega⟩
/-- across both. -/
def dg (c : Dev nD) : Dev nD := xn (yn c)

theorem xn_xn (c : Dev nD) : xn (xn c) = c := by revert c; decide
theorem yn_yn (c : Dev nD) : yn (yn c) = c := by revert c; decide
theorem dg_dg (c : Dev nD) : dg (dg c) = c := by revert c; decide

theorem dev_x {c : Dev nD} {n : ℕ} {h : n < nD} (e : n = ((c.val % 2) + 2) - 2 * (c.val / 2)) : (⟨n, h⟩ : Dev nD) = xn c := Fin.ext e
theorem dev_y {c : Dev nD} {n : ℕ} {h : n < nD} (e : n = (2 * (c.val / 2) + 1) - (c.val % 2)) : (⟨n, h⟩ : Dev nD) = yn c := Fin.ext e
theorem dev1 (c : Dev nD) : (⟨k0_dev1 c, k0_dev1_lt c⟩ : Dev nD) = xn c := by revert c; decide +kernel
theorem dev2 (c : Dev nD) : (⟨k0_dev2 c, k0_dev2_lt c⟩ : Dev nD) = yn c := by revert c; decide +kernel
theorem dev3 (c : Dev nD) : (⟨k0_dev3 c, k0_dev3_lt c⟩ : Dev nD) = dg c := by revert c; decide +kernel
theorem dev4 (c : Dev nD) : (⟨k0_dev4 c, k0_dev4_lt c⟩ : Dev nD) = yn c := by revert c; decide +kernel
theorem dev5 (c : Dev nD) : (⟨k0_dev5 c, k0_dev5_lt c⟩ : Dev nD) = yn c := by revert c; decide +kernel
theorem dev6 (c : Dev nD) : (⟨k0_dev6 c, k0_dev6_lt c⟩ : Dev nD) = xn c := by revert c; decide +kernel
theorem dev7 (c : Dev nD) : (⟨k0_dev7 c, k0_dev7_lt c⟩ : Dev nD) = xn c := by revert c; decide +kernel
theorem dev8 (c : Dev nD) : (⟨k0_dev8 c, k0_dev8_lt c⟩ : Dev nD) = xn c := by revert c; decide +kernel
theorem dev9 (c : Dev nD) : (⟨k0_dev9 c, k0_dev9_lt c⟩ : Dev nD) = xn c := by revert c; decide +kernel
theorem dev10 (c : Dev nD) : (⟨k0_dev10 c, k0_dev10_lt c⟩ : Dev nD) = yn c := by revert c; decide +kernel
theorem dev11 (c : Dev nD) : (⟨k0_dev11 c, k0_dev11_lt c⟩ : Dev nD) = dg c := by revert c; decide +kernel
theorem dev12 (c : Dev nD) : (⟨k0_dev12 c, k0_dev12_lt c⟩ : Dev nD) = yn c := by revert c; decide +kernel
theorem dev13 (c : Dev nD) : (⟨k0_dev13 c, k0_dev13_lt c⟩ : Dev nD) = dg c := by revert c; decide +kernel
theorem dev14 (c : Dev nD) : (⟨k0_dev14 c, k0_dev14_lt c⟩ : Dev nD) = yn c := by revert c; decide +kernel
theorem dev15 (c : Dev nD) : (⟨k0_dev15 c, k0_dev15_lt c⟩ : Dev nD) = dg c := by revert c; decide +kernel
theorem dev16 (c : Dev nD) : (⟨k0_dev16 c, k0_dev16_lt c⟩ : Dev nD) = yn c := by revert c; decide +kernel
theorem dev17 (c : Dev nD) : (⟨k0_dev17 c, k0_dev17_lt c⟩ : Dev nD) = dg c := by revert c; decide +kernel

/-! ## Rectangles -/

theorem row_inb (k : Fin 4) : ∀ a, (![64 * k.val, 0] : Fin 2 → ℕ) a + S64x512.size a ≤ S256x512.size a := by
  revert k; decide

/-- Rows `64 k …` of a 256-row buffer; -/
abbrev rk (k : Fin 4) : Rect S256x512 := Rect.unit (s := S256x512) ![64 * k.val, 0] S64x512.size (row_inb k)
/-- the rows of a device's assignments that its chunk `k` reads; -/
abbrev ra (c : Dev nD) (k : Fin 4) : Rect S512x1 :=
  Rect.unit (s := S512x1) (k0_off2 c (BitVec.ofNat 32 (64 * k.val))) S64x1.size (k0_off2_inb c k)
/-- the rows of the result that chunk `k` of a device's own half fills; -/
abbrev ro (c : Dev nD) (k : Fin 4) : Rect S512x512 :=
  Rect.unit (s := S512x512) (k0_off3 c (BitVec.ofNat 32 (64 * k.val))) S64x512.size (k0_off3_inb c k)
/-- those that chunk `k` of the other half fills; -/
abbrev rt (c : Dev nD) (k : Fin 4) : Rect S512x512 :=
  Rect.unit (s := S512x512) (k0_off4 c (BitVec.ofNat 32 (64 * k.val))) S64x512.size (k0_off4_inb c k)
/-- a device's half of the tokens. -/
abbrev rh (c : Dev nD) : Rect S512x512 := Rect.unit (s := S512x512) (k0_off1 c) S256x512.size (k0_off1_inb c)

theorem exp_inb1 (e : Fin 2) : ∀ a, (![e.val, 0, 0] : Fin 3 → ℕ) a + S1x512x1024.size a ≤ S2x512x1024.size a := by
  revert e; decide
theorem exp_inb2 (e : Fin 2) : ∀ a, (![e.val, 0, 0] : Fin 3 → ℕ) a + S1x1024x512.size a ≤ S2x1024x512.size a := by
  revert e; decide
/-- One expert's weights of each layer. -/
abbrev r1 (e : Fin 2) : Rect S2x512x1024 := Rect.unit (s := S2x512x1024) ![e.val, 0, 0] S1x512x1024.size (exp_inb1 e)
abbrev r2 (e : Fin 2) : Rect S2x1024x512 := Rect.unit (s := S2x1024x512) ![e.val, 0, 0] S1x1024x512.size (exp_inb2 e)

/-! ## Reading a rectangle of contents, and gluing chunks -/

/-- Contents read at a rectangle. -/
def at_ {s : Shape} {e : EltTy} (r : Rect s) (f : s.Idx → Elt F e) : r.shape.Idx → Elt F e := fun i => f (r.emb i)

set_option backward.proofsInPublic true in
/-- The chunk that a row of a 256-row buffer lies in, -/
def chunkOf (i : S256x512.Idx) : Fin 4 := ⟨(i 0).val / 64, by have := (i 0).isLt; simp [S256x512] at this; omega⟩
set_option backward.proofsInPublic true in
/-- and its place there. -/
def inChunk (i : S256x512.Idx) : S64x512.Idx :=
  Fin.cons ⟨(i 0).val % 64, Nat.mod_lt _ (by decide)⟩ (Fin.cons ⟨(i 1).val, (i 1).isLt⟩ finZeroElim)

/-- A 256-row buffer whose chunk `k` holds `v k`. -/
def glue {e : EltTy} (v : Fin 4 → S64x512.Idx → Elt F e) : S256x512.Idx → Elt F e := fun i => v (chunkOf i) (inChunk i)

theorem rk_emb_row (k : Fin 4) (i : S64x512.Idx) : ((rk k).emb i 0).val = 64 * k.val + (i 0).val := by
  show 64 * k.val + 1 * (i 0).val = _; omega
theorem rk_emb_col (k : Fin 4) (i : S64x512.Idx) : ((rk k).emb i 1).val = (i 1).val := by
  show 0 + 1 * (i 1).val = _; omega

theorem chunkOf_emb (k : Fin 4) (i : S64x512.Idx) : chunkOf ((rk k).emb i) = k := by
  have h : (i 0).val < 64 := (i 0).isLt
  apply Fin.ext; unfold chunkOf; simp only; rw [rk_emb_row]; omega
theorem inChunk_emb (k : Fin 4) (i : S64x512.Idx) : inChunk ((rk k).emb i) = i := by
  have h : (i 0).val < 64 := (i 0).isLt
  funext a
  refine Fin.cases ?_ (fun a => Fin.cases ?_ (fun a => a.elim0) a) a
  · apply Fin.ext; show ((rk k).emb i 0).val % 64 = _; rw [rk_emb_row]; omega
  · apply Fin.ext; show ((rk k).emb i 1).val = _; rw [rk_emb_col]; rfl

omit [FloatOps F] in
theorem at_glue {e : EltTy} (v : Fin 4 → S64x512.Idx → Elt F e) (k : Fin 4) : at_ (rk k) (glue v) = v k := by
  funext i; unfold at_ glue; rw [chunkOf_emb, inChunk_emb]

/-! ## One chunk of the expert layer -/

/-- The device's place along the second mesh axis, as the word the kernel computes. -/
abbrev myY (c : Dev nD) : BitVec 32 := Scalar.remsi (Scalar.divsi (Dev.word c) 1#32) 2#32

/-- One expert on 64 tokens: the hidden layer clipped below at zero and rounded, times the second weight. -/
def expertOut (tok : Vec F S64x512 .bf16) (w1 : Vec F S1x512x1024 .bf16) (w2 : Vec F S1x1024x512 .bf16) : FVec F S64x512 .f32 :=
  matmul dot_S64x1024_S1024x512_S64x512_1_0_0_1_n_n none
    (truncf .bf16 (maximumf (matmul dot_S64x512_S512x1024_S64x1024_1_0_0_1_n_n none tok (shapeCast S512x1024 w1 shapeCasts_S1x512x1024_S512x1024)
      (constant S64x1024 .f32 0x00000000#32)) (broadcast S64x1024 (Scalar.ofBits .f32 0x00000000#32))) bitsLt_bf16_f32)
    (shapeCast S1024x512 w2 shapeCasts_S1x1024x512_S1024x512) (constant S64x512 .f32 0x00000000#32)

/-- The rows assigned to expert `x`, the others at zero. -/
def picked (a : Vec F S64x1 .i32) (x : BitVec 32) (y : FVec F S64x512 .f32) : FVec F S64x512 .f32 :=
  select (broadcastTo S64x512 (shapeCast S64x1 (cmpi .eq (a : IVec S64x1 32) (broadcast S64x1 x)) shapeCasts_S64x1_S64x1) broadcasts_S64x1_S64x512)
    y (broadcast S64x512 (Scalar.ofBits .f32 0x00000000#32))

/-- A device's two experts on 64 tokens. -/
def moeChunk (v5 : BitVec 32) (tok : Vec F S64x512 .bf16) (a : Vec F S64x1 .i32) (w1 : Vec F S2x512x1024 .bf16) (w2 : Vec F S2x1024x512 .bf16) :
    FVec F S64x512 .bf16 :=
  shapeCast S64x512 (truncf .bf16 (addf (addf (broadcast S64x512 (Scalar.ofBits .f32 0x00000000#32))
      (picked a (Scalar.addi (Scalar.muli 2#32 v5) 0#32) (expertOut tok (at_ (r1 0) w1) (at_ (r2 0) w2))))
      (picked a (Scalar.addi (Scalar.muli 2#32 v5) 1#32) (expertOut tok (at_ (r1 1) w1) (at_ (r2 1) w2)))) bitsLt_bf16_f32) shapeCasts_S64x512_S64x512

section Chunks

variable (v5 : BitVec 32) (tok : Vec F S64x512 .bf16) (a : Vec F S64x1 .i32) (w1 : Vec F S2x512x1024 .bf16) (w2 : Vec F S2x1024x512 .bf16)

omit [FloatOps F] in
theorem cast_assign : (shapeCast S64x1 a shapeCasts_S64x1_S64x1 : IVec S64x1 32) = a := shapeCast_self _ _

theorem own {x : FVec F S64x512 .bf16} (h : x = moeChunk v5 tok (shapeCast S64x1 a shapeCasts_S64x1_S64x1 : IVec S64x1 32) w1 w2) :
    x = moeChunk v5 tok a w1 w2 := by rw [h, cast_assign]

/-! The printed text cuts the eight chunks' computation at eight different places; each is the one chunk. -/

theorem own0 : k0_pay6 v5 tok (k0_pay3 a) (k0_pay4 (F := F)) (Scalar.addi (Scalar.muli 2#32 v5) 0#32) (k0_pay5 tok (at_ (r1 0) w1))
    (at_ (r2 0) w2) (at_ (r1 1) w1) (at_ (r2 1) w2) = moeChunk v5 tok a w1 w2 := own v5 tok a w1 w2 rfl
theorem own1 : k0_pay10 tok (k0_pay7 a) (k0_pay8 v5 tok a (at_ (r1 0) w1) (at_ (r2 0) w2)) (Scalar.addi (Scalar.muli 2#32 v5) 1#32)
    (k0_pay9 (at_ (r1 1) w1)) (constant S64x1024 .f32 0x00000000#32) (at_ (r2 1) w2) = moeChunk v5 tok a w1 w2 := own v5 tok a w1 w2 rfl
theorem own2 : k0_pay14 (k0_pay13 v5 tok (k0_pay11 a) (k0_pay12 (F := F)) (Scalar.muli 2#32 v5) (at_ (r1 0) w1) (at_ (r2 0) w2)
    (at_ (r1 1) w1) (at_ (r2 1) w2)) = moeChunk v5 tok a w1 w2 := own v5 tok a w1 w2 rfl
theorem own3 : k0_pay19 v5 tok (k0_pay15 a) (k0_pay16 (F := F)) (k0_pay17 tok (at_ (r1 0) w1) (at_ (r2 0) w2)) (k0_pay18 v5 a)
    (at_ (r1 1) w1) (at_ (r2 1) w2) = moeChunk v5 tok a w1 w2 := own v5 tok a w1 w2 rfl
theorem other0 : k0_pay23 v5 tok a (k0_pay20 (F := F)) (k0_pay21 tok (at_ (r1 0) w1) (at_ (r2 0) w2)) (k0_pay22 v5)
    (at_ (r1 1) w1) (at_ (r2 1) w2) = moeChunk v5 tok a w1 w2 := rfl
theorem other1 : k0_pay27 v5 tok a (k0_pay24 (F := F)) (k0_pay25 tok (at_ (r1 0) w1) (at_ (r2 0) w2)) (Scalar.ofBits .f32 0x00000000#32) (k0_pay26 v5 a)
    (at_ (r1 1) w1) (at_ (r2 1) w2) = moeChunk v5 tok a w1 w2 := rfl
theorem other2 : k0_pay30 v5 tok a (k0_pay28 (F := F)) (k0_pay29 v5 tok a (at_ (r1 0) w1) (at_ (r2 0) w2))
    (at_ (r1 1) w1) (at_ (r2 1) w2) = moeChunk v5 tok a w1 w2 := rfl
theorem other3 : k0_pay32 tok a (k0_pay31 v5 tok a (at_ (r1 0) w1) (at_ (r2 0) w2)) (Scalar.muli 2#32 v5)
    (at_ (r1 1) w1) (at_ (r2 1) w2) = moeChunk v5 tok a w1 w2 := rfl

end Chunks

/-- A chunk of the result: the sum of two devices' partial results. -/
def sumChunk (u v : Vec F S64x512 .bf16) : FVec F S64x512 .bf16 := addf (F := F) (φ := .bf16) u v

section Sums
variable (u v : Vec F S64x512 .bf16)
theorem sum33 : k0_pay33 u v = sumChunk u v := rfl
theorem sum34 : k0_pay34 u v = sumChunk u v := rfl
theorem sum35 : k0_pay35 u v = sumChunk u v := rfl
theorem sum36 : k0_pay36 u v = sumChunk u v := rfl
theorem sum37 : k0_pay37 u v = sumChunk u v := rfl
theorem sum38 : k0_pay38 u v = sumChunk u v := rfl
theorem sum39 : k0_pay39 u v = sumChunk u v := rfl
theorem sum40 : k0_pay40 u v = sumChunk u v := rfl
end Sums

end Cert.MoeProof

end
-- ==== Proof.Steps.lean ====
/-
  The memory steps of a kernel's body over `owns`: loads and stores through a memref owned whole, or owned at the very
  slice they touch, and the split of a memref into slices.
-/
module

public import proofs.«01_k».proof.Proof.Contents

@[expose] public section

noncomputable section

namespace Cert.MoeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

/-- The pipeline library's rounds (left) and the exchange's (right), whose barrier cells have three duties. -/
abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

abbrev 𝒱₀ : Variants := Variants.none

/-- The body's weakest precondition on device `c`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A memref of device `c` owned at some contents. -/
def some_ (c : Dev nD) {sp : Space} {s : Shape} {e : EltTy} (M : Memref sig .tc sp s e) : sProp 𝕄 :=
  iprop(∃ w : s.Idx → Elt F e, owns (c : Thread nD τ) M fullShare w)

omit [FloatOps F] in
instance some_storable (c : Dev nD) {sp : Space} {s : Shape} {e : EltTy} (M : Memref sig .tc sp s e) :
    BI.Storable (upEmb : UEmb _ 𝕄) (some_ (F := F) c M) := by unfold some_; infer_instance

section Mem

variable (c : Dev nD) {s : Shape} {e : EltTy} (M : Memref sig .tc .vmem s e) (r : Rect s) (hr : ∀ a, r.stride a = 1)
  {α : Type}

/-- A load of a slice that is owned as a slice. -/
theorem load_at {q : PosShare TreeShare} {w : r.shape.Idx → Elt F e} {hl : M.view.LoadsAt r.toLoadRect} {Q : α → sProp 𝕄} {k : (r.shape.Idx → Elt F e) → Prog (TpuEff nD τ sig (Elt F) Λ₀ .tc) α} :
    owns (c : Thread nD τ) (M.slice r hr) q w
      ⊢ iprop((owns (c : Thread nD τ) (M.slice r hr) q w -∗ run c (k w) Q) -∗ run c (.op (.load M r.toLoadRect hl) k) Q) := by
  unfold owns
  iintro ⟨%f, %hf, H⟩ Hk
  iapply (wp_load_rect 𝒱₀ (c : Thread nD τ) none Set.univ (m := M) (r := r) (S := (M.access r).set) (f := f) (q := q) subset_rfl) $$ [H]
  · iexact H
  iintro H
  have hf' : (M.access r).read (Elt F) f = w := hf
  rw [hf']
  iapply Hk
  iexists f
  isplitr
  · ipureintro; exact hf
  iexact H

/-- A load of a rectangle of a memref that is owned whole. -/
theorem load_in {q : PosShare TreeShare} {w : s.Idx → Elt F e} {hl : M.view.LoadsAt r.toLoadRect} {Q : α → sProp 𝕄} {k : (r.shape.Idx → Elt F e) → Prog (TpuEff nD τ sig (Elt F) Λ₀ .tc) α} :
    owns (c : Thread nD τ) M q w
      ⊢ iprop((owns (c : Thread nD τ) M q w -∗ run c (k (at_ r w)) Q) -∗ run c (.op (.load M r.toLoadRect hl) k) Q) := by
  unfold owns
  iintro ⟨%f, %hf, H⟩ Hk
  iapply (wp_load_rect 𝒱₀ (c : Thread nD τ) none Set.univ (m := M) (r := r) (S := M.view.set) (f := f) (q := q) (View.set_slice_subset _ r)) $$ [H]
  · iexact H
  iintro H
  have hf' : (M.access r).read (Elt F) f = at_ r w := by rw [← hf]; rfl
  rw [hf']
  iapply Hk
  iexists f
  isplitr
  · ipureintro; exact hf
  iexact H

/-- A store of a slice that is owned as a slice. -/
theorem store_at {w0 w : r.shape.Idx → Elt F e} {hx : (M.access r).Stores Finset.univ} {hm} {Q : α → sProp 𝕄} {k : PUnit → Prog (TpuEff nD τ sig (Elt F) Λ₀ .tc) α} :
    owns (c : Thread nD τ) (M.slice r hr) fullShare w0
      ⊢ iprop((owns (c : Thread nD τ) (M.slice r hr) fullShare w -∗ run c (k ⟨⟩) Q)
          -∗ run c (.op (.store M r w Finset.univ hx hm) k) Q) := by
  unfold owns
  iintro ⟨%f, -, H⟩ Hk
  iapply (wp_store 𝒱₀ (c : Thread nD τ) none Set.univ (m := M) (r := r) (S := (M.access r).set) (f := f)
    (by rw [View.setOn_univ])) $$ [H]
  · iexact H
  iintro H
  iapply Hk
  iexists (M.access r).write (Elt F) f w Finset.univ
  isplitr
  · ipureintro; exact View.read_write_univ _ _
  iexact H

/-- The same at contents equal to those the program names. -/
theorem store_eq {w0 w w' : r.shape.Idx → Elt F e} (hw : w = w') {hx : (M.access r).Stores Finset.univ} {hm} {Q : α → sProp 𝕄}
    {k : PUnit → Prog (TpuEff nD τ sig (Elt F) Λ₀ .tc) α} :
    owns (c : Thread nD τ) (M.slice r hr) fullShare w0
      ⊢ iprop((owns (c : Thread nD τ) (M.slice r hr) fullShare w' -∗ run c (k ⟨⟩) Q)
          -∗ run c (.op (.store M r w Finset.univ hx hm) k) Q) := by
  subst hw; exact store_at c M r hr

/-- A store of a rectangle of a memref that is owned whole. -/
theorem store_in {w0 : s.Idx → Elt F e} {w : r.shape.Idx → Elt F e} {hx : (M.access r).Stores Finset.univ} {hm} {Q : α → sProp 𝕄} {k : PUnit → Prog (TpuEff nD τ sig (Elt F) Λ₀ .tc) α} :
    owns (c : Thread nD τ) M fullShare w0
      ⊢ iprop((owns (c : Thread nD τ) M fullShare (r.overlay w0 w) -∗ run c (k ⟨⟩) Q)
          -∗ run c (.op (.store M r w Finset.univ hx hm) k) Q) := by
  unfold owns
  iintro ⟨%f, %hf, H⟩ Hk
  iapply (wp_store 𝒱₀ (c : Thread nD τ) none Set.univ (m := M) (r := r) (S := M.view.set) (f := f)
    (by rw [View.setOn_univ]; exact View.set_slice_subset _ r)) $$ [H]
  · iexact H
  iintro H
  iapply Hk
  iexists (M.access r).write (Elt F) f w Finset.univ
  isplitr
  · ipureintro
    funext i
    by_cases hi : i ∈ r.set
    · rw [← Rect.map_emb_univ, Finset.mem_map] at hi
      obtain ⟨j, -, rfl⟩ := hi
      rw [Rect.overlay_emb]
      exact M.view.read_slice_write_emb r f w (Finset.mem_univ j)
    · rw [Rect.overlay_of_not_mem _ _ _ hi, ← hf]
      exact M.view.read_slice_write_of_not_mem r f w Finset.univ (by rw [Rect.map_emb_univ]; exact hi)
  iexact H

/-- The same at contents equal to those the program names. -/
theorem store_in_eq {w0 : s.Idx → Elt F e} {w w' : r.shape.Idx → Elt F e} (hw : w = w') {hx : (M.access r).Stores Finset.univ} {hm}
    {Q : α → sProp 𝕄} {k : PUnit → Prog (TpuEff nD τ sig (Elt F) Λ₀ .tc) α} :
    owns (c : Thread nD τ) M fullShare w0
      ⊢ iprop((owns (c : Thread nD τ) M fullShare (r.overlay w0 w') -∗ run c (k ⟨⟩) Q)
          -∗ run c (.op (.store M r w Finset.univ hx hm) k) Q) := by
  subst hw; exact store_in c M r

/-- A store of a rectangle that leaves the same contents whatever was there. -/
theorem store_over {w0 : s.Idx → Elt F e} {w : r.shape.Idx → Elt F e} {w' : s.Idx → Elt F e} (h : ∀ X, r.overlay X w = w')
    {hx : (M.access r).Stores Finset.univ} {hm} {Q : α → sProp 𝕄} {k : PUnit → Prog (TpuEff nD τ sig (Elt F) Λ₀ .tc) α} :
    owns (c : Thread nD τ) M fullShare w0
      ⊢ iprop((owns (c : Thread nD τ) M fullShare w' -∗ run c (k ⟨⟩) Q)
          -∗ run c (.op (.store M r w Finset.univ hx hm) k) Q) := by
  rw [← h w0]; exact store_in c M r

end Mem

/-! ## A 256-row buffer in four slices -/

theorem rk_one (k : Fin 4) : ∀ a, (rk k).stride a = 1 := fun _ => rfl

/-- Rows `64 k …` of a 256-row memref. -/
abbrev sl {e : EltTy} (M : Memref sig .tc .vmem S256x512 e) (k : Fin 4) : Memref sig .tc .vmem (rk k).shape e := M.slice (rk k) (rk_one k)

theorem rk_mem (k : Fin 4) (i : S256x512.Idx) : i ∈ (rk k).set ↔ chunkOf i = k := by
  rw [← Rect.map_emb_univ, Finset.mem_map]
  constructor
  · rintro ⟨j, -, rfl⟩; exact chunkOf_emb k j
  · intro h
    refine ⟨inChunk i, Finset.mem_univ _, ?_⟩
    subst h
    funext a
    refine Fin.cases ?_ (fun a => Fin.cases ?_ (fun a => a.elim0) a) a
    · apply Fin.ext; show ((rk (chunkOf i)).emb (inChunk i) 0).val = _
      rw [rk_emb_row]; show 64 * ((i 0).val / 64) + (i 0).val % 64 = _; omega
    · apply Fin.ext; show ((rk (chunkOf i)).emb (inChunk i) 1).val = _; rw [rk_emb_col]; rfl

theorem rk_disj (k k' : Fin 4) (h : k ≠ k') : Disjoint (rk k).set (rk k').set := by
  rw [Finset.disjoint_left]; intro i hi hi'
  rw [rk_mem] at hi hi'; exact h (hi.symm.trans hi')

theorem rk_cover : (Finset.univ : Finset (Fin 4)).biUnion (fun k => (rk k).set) = Finset.univ := by
  ext i; simp only [Finset.mem_biUnion, Finset.mem_univ, true_and, iff_true]
  exact ⟨chunkOf i, (rk_mem _ i).mpr rfl⟩

omit [FloatOps F] in
theorem four {M : Type} [URA M] (Φ : Fin 4 → sProp M) : bigSep Finset.univ Φ = iprop(Φ 0 ∗ Φ 1 ∗ Φ 2 ∗ Φ 3) :=
  bigSep_univ_eq_bigSepL [(0 : Fin 4), 1, 2, 3] (by decide) (by decide) Φ

omit [FloatOps F] in
/-- A 256-row buffer at some contents is its four slices at some contents; -/
theorem some_split (c : Dev nD) {e : EltTy} (M : Memref sig .tc .vmem S256x512 e) :
    (some_ c M : sProp 𝕄) ⊢ bigSep Finset.univ fun k => some_ c (sl M k) := by
  iintro H
  unfold some_
  icases H with ⟨%w, H⟩
  iapply ((owns_rects (c : Thread nD τ) M fullShare rk rk_one rk_disj rk_cover w).trans
    (bigSep_mono fun k _ => by
      show owns (c : Thread nD τ) (sl M k) fullShare _ ⊢ iprop(∃ w : (rk k).shape.Idx → Elt F e, owns (c : Thread nD τ) (sl M k) fullShare w)
      iintro H; iexists _; iexact H))
  iexact H

/-- and back. -/
theorem some_join (c : Dev nD) {e : EltTy} (M : Memref sig .tc .vmem S256x512 e) :
    (bigSep Finset.univ fun k => some_ c (sl M k)) ⊢ (some_ c M : sProp 𝕄) := by
  have : ∀ e, Nonempty (Elt F e) := inferInstance
  unfold some_
  refine (Idealize.SL.BI.bigSep_exists_pi Finset.univ (fun k (w : S64x512.Idx → Elt F e) => (owns (c : Thread nD τ) (sl M k) fullShare w : sProp 𝕄))).trans ?_
  iintro ⟨%ws, H⟩
  iexists glue ws
  iapply (owns_of_rects (c : Thread nD τ) M fullShare rk rk_one rk_disj rk_cover (glue ws))
  iapply (Entails.of_eq (bigSep_congr (s := Finset.univ) fun k _ => by
    rw [show (fun j => glue ws ((rk k).emb j)) = ws k from at_glue ws k]))
  iexact H

end Cert.MoeProof

end
-- ==== Proof.Cells.lean ====
/-
  The exchange's protocol: the fourteen remote copies of each device, the cells they credit, what each landing hands over
  (with its contents), the one round of the barrier and of every copy, what each device owes at launch, and the levels
  under which its waits are allowed.
-/
module

public import proofs.«01_k».proof.Proof.Steps

@[expose] public section

noncomputable section

namespace Cert.MoeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

/-! ## The memrefs -/

abbrev mX : Memref sig .tc .vmem S512x512 .f32 := Memref.whole cc0_stg0_0
abbrev mA : Memref sig .tc .vmem S512x1 .i32 := Memref.whole cc0_stg1_0
abbrev mW1 : Memref sig .tc .vmem S2x512x1024 .bf16 := Memref.whole cc0_stg2_0
abbrev mW2 : Memref sig .tc .vmem S2x1024x512 .bf16 := Memref.whole cc0_stg3_0
abbrev mO : Memref sig .tc .vmem S512x512 .bf16 := Memref.whole cc0_stg4_0
/-- A device's half of its tokens, rounded; its partner's half; its partner's assignments; -/
abbrev mB : Memref sig .tc .vmem S256x512 .bf16 := Memref.whole cc0_scratch0
abbrev mBr : Memref sig .tc .vmem S256x512 .bf16 := Memref.whole cc0_scratch1
abbrev mAr : Memref sig .tc .vmem S512x1 .i32 := Memref.whole cc0_scratch2
/-- the partial results of its own half, and those its first-axis neighbour made of the other half; -/
abbrev mP : Memref sig .tc .vmem S256x512 .bf16 := Memref.whole cc0_scratch3
abbrev mPr : Memref sig .tc .vmem S256x512 .bf16 := Memref.whole cc0_scratch4
/-- the partial results of its partner's half, and what lands of the others' such results. -/
abbrev mQ : Memref sig .tc .vmem S256x512 .bf16 := Memref.whole cc0_scratch5
abbrev mQs : Memref sig .tc .vmem S256x512 .bf16 := Memref.whole cc0_scratch6
abbrev mQd : Memref sig .tc .vmem S256x512 .bf16 := Memref.whole cc0_scratch7

/-! ## Contents -/

/-- The four devices' staged arguments. -/
structure Args (F : FTy → Type) where
  x : Dev nD → Vec F S512x512 .f32
  a : Dev nD → Vec F S512x1 .i32
  w1 : Dev nD → Vec F S2x512x1024 .bf16
  w2 : Dev nD → Vec F S2x1024x512 .bf16

variable (G : Args F)

/-- The half of its tokens that a device works on, rounded; -/
def xbV (c : Dev nD) : S256x512.Idx → Elt F .bf16 := k0_pay2 (k0_pay1 (at_ (rh c) (G.x c)))
/-- chunk `k` of its experts' results on that half; -/
def plocV (k : Fin 4) (c : Dev nD) : S64x512.Idx → Elt F .bf16 :=
  moeChunk (myY c) (at_ (rk k) (xbV G c)) (at_ (ra c k) (G.a c)) (G.w1 c) (G.w2 c)
/-- chunk `k` of its experts' results on its partner's half. -/
def premV (k : Fin 4) (c : Dev nD) : S64x512.Idx → Elt F .bf16 :=
  moeChunk (myY c) (at_ (rk k) (xbV G (yn c))) (at_ (ra c k) (G.a (yn c))) (G.w1 c) (G.w2 c)

/-- A chunk of the result in a device's own half, and in the other. -/
def ownV (k : Fin 4) (c : Dev nD) : S64x512.Idx → Elt F .bf16 := sumChunk (plocV G k c) (premV G k (yn c))
def otherV (k : Fin 4) (c : Dev nD) : S64x512.Idx → Elt F .bf16 := sumChunk (plocV G k (xn c)) (premV G k (dg c))

/-! ## The copies -/

/-- A device's remote copies: its half of the tokens, its assignments, the four chunks for its own half, and the four
    chunks for its partner's half, each of these to two devices. -/
inductive Cp where
  | x | a
  | ploc (k : Fin 4)
  | ps (k : Fin 4)
  | pd (k : Fin 4)
  deriving DecidableEq

instance : Fintype Cp :=
  ⟨{.x, .a, .ploc 0, .ploc 1, .ploc 2, .ploc 3, .ps 0, .ps 1, .ps 2, .ps 3, .pd 0, .pd 1, .pd 2, .pd 3}, by
    intro p
    cases p with
    | x => decide
    | a => decide
    | ploc k => revert k; decide
    | ps k => revert k; decide
    | pd k => revert k; decide⟩

/-- The number of a copy: its place in the two semaphore arrays. -/
def Cp.num : Cp → Fin 14
  | .x => 0 | .a => 1
  | .ploc k => ⟨2 + k.val, by omega⟩
  | .ps k => ⟨6 + k.val, by omega⟩
  | .pd k => ⟨10 + k.val, by omega⟩

def Cp.of : ℕ → Cp
  | 0 => .x | 1 => .a
  | 2 => .ploc 0 | 3 => .ploc 1 | 4 => .ploc 2 | 5 => .ploc 3
  | 6 => .ps 0 | 7 => .ps 1 | 8 => .ps 2 | 9 => .ps 3
  | 10 => .pd 0 | 11 => .pd 1 | 12 => .pd 2 | _ => .pd 3

theorem cps {M : Type} [URA M] (Φ : Cp → sProp M) : bigSep Finset.univ Φ
    = iprop(Φ .x ∗ Φ .a ∗ Φ (.ploc 0) ∗ Φ (.ploc 1) ∗ Φ (.ploc 2) ∗ Φ (.ploc 3) ∗ Φ (.ps 0) ∗ Φ (.ps 1) ∗ Φ (.ps 2) ∗ Φ (.ps 3)
        ∗ Φ (.pd 0) ∗ Φ (.pd 1) ∗ Φ (.pd 2) ∗ Φ (.pd 3)) :=
  bigSep_univ_eq_bigSepL [Cp.x, .a, .ploc 0, .ploc 1, .ploc 2, .ploc 3, .ps 0, .ps 1, .ps 2, .ps 3, .pd 0, .pd 1, .pd 2, .pd 3]
    (by decide) (by decide) Φ

/-- The device a copy goes to — and, the maps being their own inverses, the device it comes from. -/
def peer (c : Dev nD) : Cp → Dev nD
  | .x | .a | .ps _ => yn c
  | .ploc _ => xn c
  | .pd _ => dg c

theorem peer_peer (c : Dev nD) (p : Cp) : peer (peer c p) p = c := by
  cases p
  · exact yn_yn c
  · exact yn_yn c
  · exact xn_xn c
  · exact yn_yn c
  · exact dg_dg c

/-- The three neighbours in the order a device signals them. -/
def nb (c : Dev nD) (d : Fin 3) : Dev nD := match d with | 0 => xn c | 1 => yn c | 2 => dg c
theorem nb_nb (c : Dev nD) (d : Fin 3) : nb (nb c d) d = c := by revert c d; decide

/-! ## The cells -/

abbrev barS : Sem sig := (SemArray.scalar (sig.barrier 0 rfl) : Sems sig S_).sem
set_option backward.proofsInPublic true in
def sendS (p : Cp) : DmaSem sig := ⟨5 + p.num.val, by have := p.num.isLt; show _ < 33; omega⟩
set_option backward.proofsInPublic true in
def recvS (p : Cp) : DmaSem sig := ⟨19 + p.num.val, by have := p.num.isLt; show _ < 33; omega⟩

abbrev barCell (c : Dev nD) : GSem nD τ sig := ((c : Thread nD τ), .reg barS)
abbrev sendCell (c : Dev nD) (p : Cp) : GSem nD τ sig := ((c : Thread nD τ), .dma (sendS p))
abbrev recvCell (c : Dev nD) (p : Cp) : GSem nD τ sig := ((c : Thread nD τ), .dma (recvS p))

/-- What a semaphore is to the exchange. -/
inductive Role where
  | bar | send (p : Cp) | recv (p : Cp) | none
  deriving DecidableEq

def role : SemLoc sig → Role
  | .reg _ => .bar
  | .dma i => if i.val < 5 then .none else if i.val < 19 then .send (Cp.of (i.val - 5)) else .recv (Cp.of (i.val - 19))

theorem role_send (p : Cp) : role (.dma (sendS p)) = .send p := by revert p; decide
theorem role_recv (p : Cp) : role (.dma (recvS p)) = .recv p := by revert p; decide
theorem role_bar : role (.reg barS) = .bar := rfl

/-! ## What a copy takes and what it lands -/

/-- The source as the copy takes it: at a part of the share, at its contents; -/
def srcPts (c : Dev nD) (p : Cp) : sProp 𝕄 :=
  match p with
  | .x => owns (c : Thread nD τ) mB fullShare.left (xbV G c)
  | .a => owns (c : Thread nD τ) mA fullShare.left (G.a c)
  | .ploc k => owns (c : Thread nD τ) (sl mP k) fullShare.left (plocV G k c)
  | .ps k => owns (c : Thread nD τ) (sl mQ k) fullShare.left (premV G k c)
  | .pd k => owns (c : Thread nD τ) (sl mQ k) fullShare.right (premV G k c)

/-- device `c`'s landing place at anything; -/
def dstAny (c : Dev nD) (p : Cp) : sProp 𝕄 :=
  match p with
  | .x => some_ c mBr
  | .a => some_ c mAr
  | .ploc k => some_ c (sl mPr k)
  | .ps k => some_ c (sl mQs k)
  | .pd k => some_ c (sl mQd k)

/-- and at what lands there. -/
def dstPts (c : Dev nD) (p : Cp) : sProp 𝕄 :=
  match p with
  | .x => owns (c : Thread nD τ) mBr fullShare (xbV G (yn c))
  | .a => owns (c : Thread nD τ) mAr fullShare (G.a (yn c))
  | .ploc k => owns (c : Thread nD τ) (sl mPr k) fullShare (plocV G k (xn c))
  | .ps k => owns (c : Thread nD τ) (sl mQs k) fullShare (premV G k (yn c))
  | .pd k => owns (c : Thread nD τ) (sl mQd k) fullShare (premV G k (dg c))

/-- What a copy credits. -/
def amt (p : Cp) : ℕ :=
  match p with
  | .x => (mBr : Memref sig .tc .vmem S256x512 .bf16).view.dmaCredit
  | .a => (mAr : Memref sig .tc .vmem S512x1 .i32).view.dmaCredit
  | .ploc k => (sl mPr k).view.dmaCredit
  | .ps k => (sl mQs k).view.dmaCredit
  | .pd k => (sl mQd k).view.dmaCredit

theorem amt_pos (p : Cp) : 0 < amt p := by
  cases p
  · exact View.dmaCredit_pos _ (by decide)
  · exact View.dmaCredit_pos _ (by decide)
  all_goals exact View.dmaCredit_pos _ (by show 0 < (⟨2, S64x512.size⟩ : Shape).numel; decide)

instance srcPts_storable (c : Dev nD) (p : Cp) : BI.Storable (upEmb : UEmb _ 𝕄) (srcPts G c p) := by
  unfold srcPts; cases p <;> infer_instance
instance dstPts_storable (c : Dev nD) (p : Cp) : BI.Storable (upEmb : UEmb _ 𝕄) (dstPts G c p) := by
  unfold dstPts; cases p <;> infer_instance
omit [FloatOps F] in
instance dstAny_storable (c : Dev nD) (p : Cp) : BI.Storable (upEmb : UEmb _ 𝕄) (dstAny (F := F) c p) := by
  unfold dstAny; cases p <;> infer_instance

/-- A landing place lent: at anything, its receive cell open. -/
def lent (c : Dev nD) (p : Cp) : sProp 𝕄 := iprop(dstAny (F := F) c p ∗ reached ER (recvCell c p) 0)

/-- What each neighbour's barrier unit brings device `c`: the landing places of `c`'s copies to that neighbour. -/
def barPay (c : Dev nD) (d : Fin 3) : sProp 𝕄 :=
  match d with
  | 0 => bigSep Finset.univ fun k => lent (xn c) (.ploc k)
  | 1 => iprop(lent (yn c) .x ∗ lent (yn c) .a ∗ bigSep Finset.univ fun k => lent (yn c) (.ps k))
  | 2 => bigSep Finset.univ fun k => lent (dg c) (.pd k)

omit [FloatOps F] in
instance barPay_storable (c : Dev nD) (d : Fin 3) : BI.Storable (upEmb : UEmb _ 𝕄) (barPay (F := F) c d) := by
  unfold barPay lent; split <;> infer_instance

/-! ## The schedule -/

def payR (c : Dev nD) (d : Fin 3) : Role → sProp 𝕄
  | .bar => barPay c d
  | .send p => srcPts G c p
  | .recv p => dstPts G c p
  | .none => iprop(emp)

instance payR_storable (c : Dev nD) (d : Fin 3) (r : Role) : BI.Storable (upEmb : UEmb _ 𝕄) (payR G c d r) := by
  unfold payR; cases r <;> infer_instance

def dutR : Role → Finset (Fin 3)
  | .bar => Finset.univ
  | .send _ | .recv _ => {0}
  | .none => ∅

def amtR : Role → ℕ
  | .bar => 1
  | .send p | .recv p => amt p
  | .none => 1

/-- One round: three units at every barrier cell, one duty at every send and receive cell. -/
def rd : Rounds.Schedule (GSem nD τ sig) (Fin 3) 𝕄 where
  duties g r := if r = 0 ∧ g.1.2 = .tc then dutR (role g.2) else ∅
  unitless _ := False
  amount g _ _ := amtR (role g.2)
  payload g _ d := payR G g.1.1 d (role g.2)
  amount_pos g _ _ _ := by
    unfold amtR; split
    · exact Nat.one_pos
    · exact amt_pos _
    · exact amt_pos _
    · exact Nat.one_pos

instance rd_storable (g : GSem nD τ sig) (r : ℕ) (d : Fin 3) : BI.Storable (upEmb : UEmb _ 𝕄) ((rd G).payload g r d) := by
  show BI.Storable upEmb (payR G g.1.1 d (role g.2)); infer_instance

section Tables

variable (c : Dev nD) (p : Cp) (d : Fin 3)

theorem duties_bar : (rd G).duties (barCell c) 0 = Finset.univ := by dsimp only [rd]; exact if_pos ⟨rfl, rfl⟩
theorem duties_send : (rd G).duties (sendCell c p) 0 = {0} := by
  dsimp only [rd]; rw [role_send]; exact if_pos ⟨rfl, rfl⟩
theorem duties_recv : (rd G).duties (recvCell c p) 0 = {0} := by
  dsimp only [rd]; rw [role_recv]; exact if_pos ⟨rfl, rfl⟩
theorem duties_later (g : GSem nD τ sig) : ∀ r, 1 ≤ r → (rd G).duties g r = ∅ :=
  fun r hr => by dsimp only [rd]; exact if_neg fun h => by omega
theorem amount_bar : (rd G).amount (barCell c) 0 d = 1 := rfl
theorem amount_send : (rd G).amount (sendCell c p) 0 d = amt p := by dsimp only [rd]; rw [role_send]; rfl
theorem amount_recv : (rd G).amount (recvCell c p) 0 d = amt p := by dsimp only [rd]; rw [role_recv]; rfl
theorem expect_bar : (rd G).expect (barCell c) 0 = 3 := by
  unfold Schedule.expect Schedule.amountOf; rw [duties_bar]; rfl
theorem expect_send : (rd G).expect (sendCell c p) 0 = amt p := by
  unfold Schedule.expect Schedule.amountOf; rw [duties_send, Finset.sum_singleton, amount_send]
theorem expect_recv : (rd G).expect (recvCell c p) 0 = amt p := by
  unfold Schedule.expect Schedule.amountOf; rw [duties_recv, Finset.sum_singleton, amount_recv]
theorem payload_bar : (rd G).payload (barCell c) 0 d = barPay c d := rfl
theorem payload_send : (rd G).payload (sendCell c p) 0 d = srcPts G c p := by dsimp only [rd]; rw [role_send]; rfl
theorem payload_recv : (rd G).payload (recvCell c p) 0 d = dstPts G c p := by dsimp only [rd]; rw [role_recv]; rfl

theorem rest_bar : bigSep ((rd G).duties (barCell c) 0 \ ∅) (fun u => (rd G).payload (barCell c) 0 u)
    = iprop(barPay c 0 ∗ barPay c 1 ∗ barPay c 2) := by
  rw [Finset.sdiff_empty, duties_bar]
  exact bigSep_univ_eq_bigSepL [(0 : Fin 3), 1, 2] (by decide) (by decide) _
theorem rest_send : bigSep ((rd G).duties (sendCell c p) 0 \ ∅) (fun u => (rd G).payload (sendCell c p) 0 u) = srcPts G c p := by
  rw [Finset.sdiff_empty, duties_send, bigSep_singleton, payload_send]
theorem rest_recv : bigSep ((rd G).duties (recvCell c p) 0 \ ∅) (fun u => (rd G).payload (recvCell c p) 0 u) = dstPts G c p := by
  rw [Finset.sdiff_empty, duties_recv, bigSep_singleton, payload_recv]

end Tables

/-! ## What each device owes -/

/-- A device's dues: a unit to each neighbour's barrier cell, a landing at each copy's receive cell. -/
abbrev Due : Type := Fin 3 ⊕ Cp

def dueCell (c : Dev nD) : Due → GSem nD τ sig
  | .inl d => barCell (nb c d)
  | .inr p => recvCell (peer c p) p
def dueAmt : Due → ℕ
  | .inl _ => 1
  | .inr p => amt p

/-- The order the program pays them in. -/
def rank : Due → ℕ
  | .inl d => d.val
  | .inr .x => 3
  | .inr .a => 4
  | .inr (.ploc k) => 5 + k.val
  | .inr (.ps k) => 9 + 2 * k.val
  | .inr (.pd k) => 10 + 2 * k.val

def due (c : Dev nD) (u : Due) : CellTallies nD τ sig Unit := tallyAt (dueCell c u) () (dueAmt u)

/-- What a device still owes once the first `n` are paid. -/
def owed (c : Dev nD) (n : ℕ) : CellTallies nD τ sig Unit := ∑ u : Due with n ≤ rank u, due c u

theorem rank_split (u : Due) : (Finset.univ.filter fun v : Due => rank u ≤ rank v)
    = insert u (Finset.univ.filter fun v : Due => rank u + 1 ≤ rank v) := by revert u; decide +kernel

theorem owed_step (c : Dev nD) (u : Due) : owed c (rank u) = owed c (rank u + 1) + due c u := by
  unfold owed
  rw [rank_split, Finset.sum_insert (by simp), add_comm]

theorem owed_done (c : Dev nD) : owed c 17 = 0 := by
  unfold owed
  rw [show (Finset.univ.filter fun v : Due => 17 ≤ rank v) = ∅ from by decide +kernel, Finset.sum_empty]

theorem owed_zero (c : Dev nD) : owed c 0 = ∑ u : Due, due c u := by
  unfold owed
  exact Finset.sum_congr (by simp) fun _ _ => rfl

theorem owed_pos (c : Dev nD) (n : ℕ) (g : GSem nD τ sig) (i : Unit) (h : 0 < owed c n g i) :
    ∃ u : Due, n ≤ rank u ∧ g = dueCell c u := by
  unfold owed at h
  rw [Finset.sum_apply, Finsupp.finsetSum_apply] at h
  obtain ⟨u, hu, hg⟩ := Finset.exists_ne_zero_of_sum_ne_zero (Nat.pos_iff_ne_zero.mp h)
  refine ⟨u, (Finset.mem_filter.mp hu).2, ?_⟩
  unfold due at hg
  rw [tallyAt_apply] at hg
  by_contra hn
  exact hg (if_neg fun h' => hn h'.1)

/-! ## Levels -/

def L (g : GSem nD τ sig) : Finset Unit := if g.1.2 = .tc then {()} else ∅
def lvR : Role → ℕ
  | .bar => 1
  | .recv .x | .recv .a => 2
  | .recv _ => 3
  | _ => 0
/-- Barrier cells lowest, then the first two landings, then the others; all else at zero. -/
def lv (g : GSem nD τ sig) (_ : Unit) : ℕ := lvR (role g.2)

theorem L_of_ne (g : GSem nD τ sig) (h : g.1.2 ≠ .tc) : L g = ∅ := if_neg h
theorem L_tc (c : Dev nD) (sm : SemLoc sig) : L ((c : Thread nD τ), sm) = {()} := if_pos rfl

/-- The level of a due's cell. -/
def dueLv : Due → ℕ
  | .inl _ => 1
  | .inr p => lvR (.recv p)

theorem lv_due (c : Dev nD) (u : Due) (i : Unit) : lv (dueCell c u) i = dueLv u := by
  cases u with
  | inl d => rfl
  | inr p => show lvR (role (.dma (recvS p))) = _; rw [role_recv]; rfl

theorem L_due (c : Dev nD) (u : Due) : L (dueCell c u) = {()} := by cases u <;> exact if_pos rfl

omit [FloatOps F] in
/-- A wait is allowed at a cell that lies below everything still owed. -/
theorem mayWait (c : Dev nD) (sm : SemLoc sig) (n : ℕ) (h : ∀ u : Due, n ≤ rank u → lvR (role sm) < dueLv u) :
    (levAts L lv : sProp 𝕄) ⊢ MayWait (c : Thread nD τ) sm () (owed c n) :=
  MayOwe.of_cut (L := L) (lev := lv) (lvR (role sm)) (fun p hp => by rw [Finset.mem_singleton.mp hp, L_tc]; exact Finset.mem_singleton_self _)
    (fun g i hg => by
      obtain ⟨u, -, rfl⟩ := owed_pos c n g i hg
      rw [L_due]; exact Finset.mem_singleton_self _)
    (fun p hp => by rw [Finset.mem_singleton.mp hp]; exact le_rfl)
    (fun g i hg => by
      obtain ⟨u, hu, rfl⟩ := owed_pos c n g i hg
      rw [lv_due]; exact h u hu)

end Cert.MoeProof

end
-- ==== Proof.Out.lean ====
/-
  The result buffer: what eight stores of 64 rows each leave in it, chunk by chunk, and the store that fills a buffer whole.
-/
module

public import proofs.«01_k».proof.Proof.Cells

@[expose] public section

noncomputable section

namespace Cert.MoeProof

open Cert.KernelIdeal Cert.KernelIdeal.Gen
open Idealize.ShloMosaic
open Idealize.ShloMosaic.TcCoe
open Idealize.SL.Sem

variable {F : FTy → Type} [FloatOps F]

set_option backward.proofsInPublic true in
/-- A row's place in its chunk of 64. -/
def rowIn (i : S512x512.Idx) : S64x512.Idx :=
  Fin.cons ⟨(i 0).val % 64, Nat.mod_lt _ (by decide)⟩ (Fin.cons ⟨(i 1).val, (i 1).isLt⟩ finZeroElim)

/-- An overlay of 64 whole rows at a multiple of 64, as a case split on the row. -/
theorem overlay_rows {e : EltTy} {off : Fin 2 → ℕ} (hin : ∀ a, off a + S64x512.size a ≤ S512x512.size a) {n : ℕ} (hoff : off = ![64 * n, 0])
    (X : S512x512.Idx → Elt F e) (v : S64x512.Idx → Elt F e) (i : S512x512.Idx) :
    (Rect.unit (s := S512x512) off S64x512.size hin).overlay X v i = if (i 0).val / 64 = n then v (rowIn i) else X i := by
  subst hoff
  set r := Rect.unit (s := S512x512) ![64 * n, 0] S64x512.size hin
  split
  · rename_i h
    have e1 : r.emb (rowIn i) = i := by
      funext a
      refine Fin.cases ?_ (fun a => Fin.cases ?_ (fun a => a.elim0) a) a
      · apply Fin.ext; show 64 * n + 1 * ((i 0).val % 64) = (i 0).val; omega
      · apply Fin.ext; show 0 + 1 * (i 1).val = (i 1).val; omega
    have := r.overlay_emb X v (rowIn i)
    rw [e1] at this
    exact this
  · rename_i h
    refine r.overlay_of_not_mem X v fun hm => h ?_
    rw [← Rect.map_emb_univ, Finset.mem_map] at hm
    obtain ⟨j, -, rfl⟩ := hm
    have hj : (j 0).val < 64 := (j 0).isLt
    show (64 * n + 1 * (j 0).val) / 64 = n
    omega

theorem ro_off (c : Dev nD) (k : Fin 4) : k0_off3 c (BitVec.ofNat 32 (64 * k.val)) = ![64 * (4 * (c.val / 2) + k.val), 0] := by
  rw [k0_off3_eq]; congr 1; omega
theorem rt_off (c : Dev nD) (k : Fin 4) : k0_off4 c (BitVec.ofNat 32 (64 * k.val)) = ![64 * (4 * (1 - c.val / 2) + k.val), 0] := by
  have : c.val < 4 := c.isLt
  rw [k0_off4_eq]; congr 1; omega

variable (G : Args F)

set_option backward.proofsInPublic true in
/-- What a device leaves in its result: in its own half of the rows the sums with its second-axis neighbour, in the other
    half those of the two devices across the first axis. -/
def outV (c : Dev nD) : S512x512.Idx → Elt F .bf16 := fun i =>
  let k : Fin 4 := ⟨(i 0).val / 64 % 4, Nat.mod_lt _ (by decide)⟩
  if (i 0).val / 256 = c.val / 2 then ownV G k c (rowIn i) else otherV G k c (rowIn i)

/-- The eight stores, over whatever was there, leave the whole result. -/
theorem out_done (c : Dev nD) (X : S512x512.Idx → Elt F .bf16) :
    (rt c 3).overlay ((rt c 2).overlay ((rt c 1).overlay ((rt c 0).overlay
      ((ro c 3).overlay ((ro c 2).overlay ((ro c 1).overlay ((ro c 0).overlay X (ownV G 0 c)) (ownV G 1 c)) (ownV G 2 c)) (ownV G 3 c))
        (otherV G 0 c)) (otherV G 1 c)) (otherV G 2 c)) (otherV G 3 c) = outV G c := by
  funext i
  have hi : (i 0).val < 512 := (i 0).isLt
  have hc : c.val < 4 := c.isLt
  rw [overlay_rows _ (rt_off c 3), overlay_rows _ (rt_off c 2), overlay_rows _ (rt_off c 1), overlay_rows _ (rt_off c 0),
    overlay_rows _ (ro_off c 3), overlay_rows _ (ro_off c 2), overlay_rows _ (ro_off c 1), overlay_rows _ (ro_off c 0)]
  unfold outV
  have hk : ∀ (k : Fin 4), (i 0).val / 64 % 4 = k.val → (⟨(i 0).val / 64 % 4, Nat.mod_lt _ (by decide)⟩ : Fin 4) = k :=
    fun k h => Fin.ext h
  show (if (i 0).val / 64 = 4 * (1 - c.val / 2) + 3 then _ else if (i 0).val / 64 = 4 * (1 - c.val / 2) + 2 then _ else
    if (i 0).val / 64 = 4 * (1 - c.val / 2) + 1 then _ else if (i 0).val / 64 = 4 * (1 - c.val / 2) + 0 then _ else
    if (i 0).val / 64 = 4 * (c.val / 2) + 3 then _ else if (i 0).val / 64 = 4 * (c.val / 2) + 2 then _ else
    if (i 0).val / 64 = 4 * (c.val / 2) + 1 then _ else if (i 0).val / 64 = 4 * (c.val / 2) + 0 then _ else _) = _
  by_cases h : (i 0).val / 256 = c.val / 2
  · simp only [h, if_true]
    iterate 4 rw [if_neg (by omega)]
    split_ifs with h3 h2 h1 h0
    · rw [hk 3 (by show _ = 3; omega)]
    · rw [hk 2 (by show _ = 2; omega)]
    · rw [hk 1 (by show _ = 1; omega)]
    · rw [hk 0 (by show _ = 0; omega)]
    · omega
  · simp only [h, if_false]
    split_ifs with h3 h2 h1 h0
    · rw [hk 3 (by show _ = 3; omega)]
    · rw [hk 2 (by show _ = 2; omega)]
    · rw [hk 1 (by show _ = 1; omega)]
    · rw [hk 0 (by show _ = 0; omega)]
    all_goals omega

/-- A store over the whole of a 256-row buffer. -/
theorem overlay_all {e : EltTy} (hin : ∀ a, (![0, 0] : Fin 2 → ℕ) a + S256x512.size a ≤ S256x512.size a)
    (X v : S256x512.Idx → Elt F e) : (Rect.unit (s := S256x512) ![0, 0] S256x512.size hin).overlay X v = v := by
  set r := Rect.unit (s := S256x512) ![0, 0] S256x512.size hin
  funext i
  have e1 : r.emb i = i := by
    funext a
    refine Fin.cases ?_ (fun a => Fin.cases ?_ (fun a => a.elim0) a) a
    · apply Fin.ext; show 0 + 1 * (i 0).val = (i 0).val; omega
    · apply Fin.ext; show 0 + 1 * (i 1).val = (i 1).val; omega
  have := r.overlay_emb X v i
  rw [e1] at this
  exact this

end Cert.MoeProof

end
-- ==== Proof.Expert.lean ====
/-
  The expert layer over the extended reals. `expert` is the textbook two-layer perceptron of one token; `byTable` the layer that
  sends every token through the expert it names and to zero where it names none; `halfOf` the part of it that two experts of
  the four make. The kernel's chunk of 64 tokens reads as `halfOf`'s two terms at each token.
-/
module

public import proofs.«01_k».proof.Proof.Out
public import Idealize.ShloMosaic.Lib.MatmulPlain
public import Idealize.ShloMosaic.Lib.ValueIdx
public import Idealize.ShloMosaic.Lib.ValueLayout

@[expose] public section

noncomputable section

namespace Cert.MoeProof

open Cert.KernelIdeal Cert.KernelIdeal.Gen
open Idealize.ShloMosaic Idealize.ShloMosaic.ValueIdx
open scoped BigOperators

/-! ## The textbook layer -/

/-- One token through one expert: the hidden layer clipped below at zero, times the second weight. -/
def expert (t : Fin 512 → EReal) (u : Fin 512 → Fin 1024 → EReal) (v : Fin 1024 → Fin 512 → EReal) (j : Fin 512) : EReal :=
  ∑ k, max (∑ d, t d * u d k) 0 * v k j

/-- The whole arrays: the tokens, the expert each names, and the experts' two weights. -/
structure Whole where
  X : Fin 1024 → Fin 512 → EReal
  A : Fin 1024 → BitVec 32
  U : Fin 4 → Fin 512 → Fin 1024 → EReal
  V : Fin 4 → Fin 1024 → Fin 512 → EReal

variable (P : Whole)

/-- Token `g` through expert `e`. -/
def Whole.at (e : Fin 4) (g : Fin 1024) (j : Fin 512) : EReal := expert (P.X g) (P.U e) (P.V e) j

/-- Token `g` through the expert it names. -/
def Whole.byTable (g : Fin 1024) (j : Fin 512) : EReal :=
  if P.A g = 3#32 then P.at 3 g j else if P.A g = 2#32 then P.at 2 g j
    else if P.A g = 1#32 then P.at 1 g j else if P.A g = 0#32 then P.at 0 g j else 0

/-- What experts `2 y` and `2 y + 1` make of token `g`. -/
def Whole.halfOf (y : Fin 2) (g : Fin 1024) (j : Fin 512) : EReal :=
  (if P.A g = BitVec.ofNat 32 (2 * y.val) then P.at ⟨2 * y.val, by omega⟩ g j else 0)
    + (if P.A g = BitVec.ofNat 32 (2 * y.val + 1) then P.at ⟨2 * y.val + 1, by omega⟩ g j else 0)

/-- The two halves make the layer: a token names at most one expert, and the other terms are zero. -/
theorem Whole.halves (g : Fin 1024) (j : Fin 512) : P.halfOf 0 g j + P.halfOf 1 g j = P.byTable g j := by
  show ((if P.A g = 0#32 then P.at 0 g j else 0) + (if P.A g = 1#32 then P.at 1 g j else 0))
    + ((if P.A g = 2#32 then P.at 2 g j else 0) + (if P.A g = 3#32 then P.at 3 g j else 0)) = _
  unfold Whole.byTable
  by_cases h3 : P.A g = 3#32
  · simp [h3]
  by_cases h2 : P.A g = 2#32
  · simp [h2]
  by_cases h1 : P.A g = 1#32
  · simp [h1]
  by_cases h0 : P.A g = 0#32 <;> simp [h0, h1, h2, h3]

/-- In either order. -/
theorem Whole.halves_of (y z : Fin 2) (h : z ≠ y) (g : Fin 1024) (j : Fin 512) : P.halfOf y g j + P.halfOf z g j = P.byTable g j := by
  have : (y = 0 ∧ z = 1) ∨ (y = 1 ∧ z = 0) := by revert y z; decide
  rcases this with ⟨rfl, rfl⟩ | ⟨rfl, rfl⟩
  · exact P.halves g j
  · rw [add_comm]; exact P.halves g j

/-! ## The kernel's chunk -/

theorem dot1_plain : dot_S64x512_S512x1024_S64x1024_1_0_0_1_n_n = DotDims.plain 64 512 1024 := rfl
theorem dot2_plain : dot_S64x1024_S1024x512_S64x512_1_0_0_1_n_n = DotDims.plain 64 1024 512 := rfl

/-- One expert on 64 tokens, at token `r`. -/
theorem expertOut_apply (tok : Vec Ideal S64x512 .bf16) (u : Vec Ideal S1x512x1024 .bf16) (v : Vec Ideal S1x1024x512 .bf16)
    (r : Fin 64) (j : Fin 512) :
    expertOut (F := Ideal) tok u v (ix2 r j)
      = expert (fun d => tok (ix2 r d)) (fun d k => u (ix3 0 d k)) (fun k j => v (ix3 0 k j)) j := by
  unfold expertOut expert
  simp only [matmul]
  rw [dot2_plain, Ideal.matmul_plain_apply]
  show Ideal.ofBits .f32 0x00000000#32 + _ = _
  rw [Ideal.ofBits_zero_f32, zero_add]
  refine Finset.sum_congr rfl fun k _ => ?_
  rw [shapeCast_1ab_ab_apply]
  refine congrArg (· * v (ix3 0 k j)) ?_
  show max _ (Ideal.ofBits .f32 0x00000000#32) = _
  rw [dot1_plain, Ideal.matmul_plain_apply]
  show max (Ideal.ofBits .f32 0x00000000#32 + _) _ = _
  rw [Ideal.ofBits_zero_f32, zero_add]
  refine congrArg (max · 0) (Finset.sum_congr rfl fun d _ => ?_)
  rw [shapeCast_1ab_ab_apply]

/-- The rows a chunk's assignments pick. -/
theorem picked_apply (a : Vec Ideal S64x1 .i32) (x : BitVec 32) (y : FVec Ideal S64x512 .f32) (r : Fin 64) (j : Fin 512) :
    picked (F := Ideal) a x y (ix2 r j) = if a (ix2 r 0) = x then y (ix2 r j) else 0 := by
  unfold picked
  rw [select_apply, shapeCast_self,
    broadcastTo_apply _ _ (ix2 r j) (ix2 r 0) (fun b => by match b with | ⟨0, _⟩ => rfl | ⟨1, _⟩ => rfl)]
  show Scalar.select (BitVec.ofBool (a (ix2 r 0) == x)) (y (ix2 r j)) (Ideal.ofBits .f32 0x00000000#32) = _
  rw [Ideal.ofBits_zero_f32]
  unfold Scalar.select
  by_cases h : a (ix2 r 0) = x
  · simp [h]
  · have : (a (ix2 r 0) == x) = false := by simpa using h
    rw [this, if_neg h]; rfl

theorem r1_emb (e : Fin 2) (d : Fin 512) (k : Fin 1024) : (r1 e).emb (ix3 0 d k) = ix3 e d k := by
  funext b; apply Fin.ext
  match b with
  | ⟨0, _⟩ => show e.val + 1 * 0 = e.val; omega
  | ⟨1, _⟩ => show 0 + 1 * d.val = d.val; omega
  | ⟨2, _⟩ => show 0 + 1 * k.val = k.val; omega
theorem r2_emb (e : Fin 2) (k : Fin 1024) (j : Fin 512) : (r2 e).emb (ix3 0 k j) = ix3 e k j := by
  funext b; apply Fin.ext
  match b with
  | ⟨0, _⟩ => show e.val + 1 * 0 = e.val; omega
  | ⟨1, _⟩ => show 0 + 1 * k.val = k.val; omega
  | ⟨2, _⟩ => show 0 + 1 * j.val = j.val; omega

/-- A chunk's result, at token `r`: the two experts' terms. -/
theorem moeChunk_apply (w : BitVec 32) (tok : Vec Ideal S64x512 .bf16) (a : Vec Ideal S64x1 .i32) (u : Vec Ideal S2x512x1024 .bf16)
    (v : Vec Ideal S2x1024x512 .bf16) (r : Fin 64) (j : Fin 512) :
    moeChunk (F := Ideal) w tok a u v (ix2 r j)
      = (if a (ix2 r 0) = Scalar.addi (Scalar.muli 2#32 w) 0#32 then
          expert (fun d => tok (ix2 r d)) (fun d k => u (ix3 0 d k)) (fun k j => v (ix3 0 k j)) j else 0)
        + (if a (ix2 r 0) = Scalar.addi (Scalar.muli 2#32 w) 1#32 then
          expert (fun d => tok (ix2 r d)) (fun d k => u (ix3 1 d k)) (fun k j => v (ix3 1 k j)) j else 0) := by
  unfold moeChunk
  rw [shapeCast_self]
  show (Ideal.ofBits .f32 0x00000000#32 + picked (F := Ideal) a _ _ (ix2 r j)) + picked (F := Ideal) a _ _ (ix2 r j) = _
  rw [Ideal.ofBits_zero_f32, zero_add, picked_apply, picked_apply, expertOut_apply, expertOut_apply]
  simp only [at_, r1_emb, r2_emb]

end Cert.MoeProof

end
-- ==== Proof.Value.lean ====
/-
  What the exchange leaves, over the extended reals. When the devices hold their blocks of the whole arrays — block `y` of the
  tokens and of the experts at second mesh coordinate `y` — a chunk a device makes is one half of the layer at the chunk's
  tokens, the sum of two devices' chunks the layer itself, and every result its block of the layer.
-/
module

public import proofs.«01_k».proof.Proof.Expert

@[expose] public section

noncomputable section

namespace Cert.MoeProof

open Cert.KernelIdeal Cert.KernelIdeal.Gen
open Idealize.ShloMosaic Idealize.ShloMosaic.ValueIdx

set_option backward.proofsInPublic true

/-- A device's second mesh coordinate; -/
def yOf (c : Dev nD) : Fin 2 := ⟨c.val % 2, Nat.mod_lt _ (by decide)⟩
/-- the whole array's token at row `i` of a device's block; -/
def row (c : Dev nD) (i : Fin 512) : Fin 1024 := ⟨512 * (c.val % 2) + i.val, by have := i.isLt; omega⟩
/-- the expert at place `e` of its block; -/
def exp (c : Dev nD) (e : Fin 2) : Fin 4 := ⟨2 * (c.val % 2) + e.val, by have := e.isLt; omega⟩
/-- row `r` of chunk `k` of its half. -/
def half (c : Dev nD) (k : Fin 4) (r : Fin 64) : Fin 512 :=
  ⟨256 * (c.val / 2) + 64 * k.val + r.val, by have : c.val < 4 := c.isLt; have := k.isLt; have := r.isLt; omega⟩

/-- The devices hold their blocks of the whole arrays. -/
structure Parts (P : Whole) (G : Args Ideal) : Prop where
  x : ∀ c i d, G.x c (ix2 i d) = P.X (row c i) d
  a : ∀ c i, G.a c (ix2 i 0) = P.A (row c i)
  w1 : ∀ c e d k, G.w1 c (ix3 e d k) = P.U (exp c e) d k
  w2 : ∀ c e k j, G.w2 c (ix3 e k j) = P.V (exp c e) k j

variable {P : Whole} {G : Args Ideal} (H : Parts P G)

theorem first_word : ∀ c : Dev nD, Scalar.addi (Scalar.muli 2#32 (myY c)) 0#32 = BitVec.ofNat 32 (2 * (yOf c).val) := by decide
theorem second_word : ∀ c : Dev nD, Scalar.addi (Scalar.muli 2#32 (myY c)) 1#32 = BitVec.ofNat 32 (2 * (yOf c).val + 1) := by decide

theorem yn_half : ∀ c : Dev nD, (yn c).val / 2 = c.val / 2 := by decide
theorem xn_mod : ∀ c : Dev nD, (xn c).val % 2 = c.val % 2 := by decide
theorem xn_half : ∀ c : Dev nD, (xn c).val / 2 = 1 - c.val / 2 := by decide
theorem yOf_yn : ∀ c : Dev nD, yOf (yn c) ≠ yOf c := by decide
theorem dg_eq : ∀ c : Dev nD, dg c = yn (xn c) := by decide

include H in
/-- The tokens of chunk `k`; -/
theorem tok_apply (k : Fin 4) (c : Dev nD) (r : Fin 64) (d : Fin 512) :
    at_ (F := Ideal) (e := .bf16) (rk k) (xbV G c) (ix2 r d) = P.X (row c (half c k r)) d := by
  rw [← H.x]
  unfold xbV k0_pay2 k0_pay1
  rw [shapeCast_self, shapeCast_self]
  show G.x c ((rh c).emb ((rk k).emb (ix2 r d))) = _
  refine congrArg (G.x c) (funext fun b => Fin.ext ?_)
  match b with
  | ⟨0, _⟩ =>
    show k0_off1 c 0 + 1 * (64 * k.val + 1 * r.val) = 256 * (c.val / 2) + 64 * k.val + r.val
    rw [k0_off1_eq]; show 256 * (c.val / 2) + _ = _; omega
  | ⟨1, _⟩ =>
    show k0_off1 c 1 + 1 * (0 + 1 * d.val) = d.val
    rw [k0_off1_eq]; show 0 + _ = _; omega

include H in
/-- the experts they name. -/
theorem names_apply (k : Fin 4) (c e : Dev nD) (h : e.val / 2 = c.val / 2) (r : Fin 64) :
    at_ (F := Ideal) (e := .i32) (ra c k) (G.a e) (ix2 r 0) = P.A (row e (half e k r)) := by
  rw [← H.a]
  refine congrArg (G.a e) (funext fun b => Fin.ext ?_)
  match b with
  | ⟨0, _⟩ =>
    show k0_off2 c (BitVec.ofNat 32 (64 * k.val)) 0 + 1 * r.val = 256 * (e.val / 2) + 64 * k.val + r.val
    rw [k0_off2_eq, h]; show 256 * (c.val / 2) + 64 * k.val + _ = _; omega
  | ⟨1, _⟩ =>
    show k0_off2 c (BitVec.ofNat 32 (64 * k.val)) 1 + 1 * 0 = 0
    rw [k0_off2_eq]; rfl

include H in
/-- A chunk that device `c` makes of the tokens of `e`: its two experts' half of the layer at those tokens. -/
theorem chunk_apply (k : Fin 4) (c e : Dev nD) (h : e.val / 2 = c.val / 2) (r : Fin 64) (j : Fin 512) :
    moeChunk (F := Ideal) (myY c) (at_ (rk k) (xbV G e)) (at_ (ra c k) (G.a e)) (G.w1 c) (G.w2 c) (ix2 r j)
      = P.halfOf (yOf c) (row e (half e k r)) j := by
  rw [moeChunk_apply, first_word, second_word, names_apply H k c e h]
  simp only [tok_apply H, H.w1, H.w2]
  rfl

include H in
/-- The sum of a device's chunk and its partner's: the layer. -/
theorem own_apply (k : Fin 4) (c : Dev nD) (r : Fin 64) (j : Fin 512) :
    ownV G k c (ix2 r j) = P.byTable (row c (half c k r)) j := by
  show plocV G k c (ix2 r j) + premV G k (yn c) (ix2 r j) = (_ : EReal)
  unfold plocV premV
  rw [yn_yn, chunk_apply H k c c rfl, chunk_apply H k (yn c) c (yn_half c).symm]
  exact P.halves_of _ _ (yOf_yn c) _ _

/-- What the other two devices send is their own sum. -/
theorem other_eq (k : Fin 4) (c : Dev nD) : otherV G k c = ownV G k (xn c) := by
  unfold otherV ownV; rw [dg_eq]

include H in
/-- A device's result is its block of the layer. -/
theorem outV_apply (c : Dev nD) (i j : Fin 512) : outV G c (ix2 i j) = P.byTable (row c i) j := by
  have hi := i.isLt
  have hc : c.val < 4 := c.isLt
  have hr : rowIn (ix2 i j) = ix2 (⟨i.val % 64, Nat.mod_lt _ (by decide)⟩ : Fin 64) j := by
    funext b
    match b with
    | ⟨0, _⟩ => rfl
    | ⟨1, _⟩ => rfl
  unfold outV
  simp only [hr, other_eq, own_apply H]
  split_ifs with h
  · refine congrArg (P.byTable · j) (Fin.ext ?_)
    show 512 * (c.val % 2) + (256 * (c.val / 2) + 64 * (i.val / 64 % 4) + i.val % 64) = 512 * (c.val % 2) + i.val
    have h : i.val / 256 = c.val / 2 := h
    omega
  · refine congrArg (P.byTable · j) (Fin.ext ?_)
    show 512 * ((xn c).val % 2) + (256 * ((xn c).val / 2) + 64 * (i.val / 64 % 4) + i.val % 64) = 512 * (c.val % 2) + i.val
    have h : ¬ i.val / 256 = c.val / 2 := h
    rw [xn_mod, xn_half]
    omega

end Cert.MoeProof

end
-- ==== Proof.Reference.lean ====
/-
  The reference, over the extended reals: its four masked experts, one after another over zero, are the layer that sends every
  token through the expert it names.
-/
module

public import proofs.«01_k».proof.Proof.Expert
public import proofs.«01_k».proof.Proof.Gen.ReferenceIdeal.Run
public import Idealize.ShloMosaic.Lib.StackMember
public import Idealize.ShloMosaic.Lib.IdealHost

@[expose] public section

noncomputable section

namespace Cert.MoeProof.Ref

open Cert.ReferenceIdeal Cert.ReferenceIdeal.Gen
open Idealize.ShloMosaic Idealize.ShloMosaic.TcCoe Idealize.ShloMosaic.ValueIdx
open Idealize.SL.Sem
open scoped BigOperators

variable (x : Vec Ideal S1024x512 .f32) (a : Vec Ideal S1024 .i32) (u : Vec Ideal S4x512x1024 .f32) (v : Vec Ideal S4x1024x512 .f32)

theorem cut1 (e : Fin 4) : S4x512x1024.Slices ![e.val, 0, 0] S1x512x1024 := by revert e; decide
theorem cut2 (e : Fin 4) : S4x1024x512.Slices ![e.val, 0, 0] S1x1024x512 := by revert e; decide

/-- All tokens through expert `e`. -/
def out (e : Fin 4) : FVec Ideal S1024x512 .f32 :=
  Host.dotGeneral (φ₁ := .f32) (φ₂ := .f32) dot_S1024x1024_S1024x512_S1024x512_1_0_0_1_n_n none
    (maximumf (Host.dotGeneral (φ₁ := .f32) (φ₂ := .f32) dot_S1024x512_S512x1024_S1024x1024_1_0_0_1_n_n none x
        (shapeCast S512x1024 (extractStridedSlice S1x512x1024 ![e.val, 0, 0] u (cut1 e)) shapeCasts_S1x512x1024_S512x1024))
      (broadcastInDim S1024x1024 ![] bcast_S_S1024x1024 (constant S_ .f32 0x00000000#32)))
    (shapeCast S1024x512 (extractStridedSlice S1x1024x512 ![e.val, 0, 0] v (cut2 e)) shapeCasts_S1x1024x512_S1024x512)

/-- Expert `e`'s results where a token names it, `y` elsewhere. -/
def step (e : Fin 4) (y : FVec Ideal S1024x512 .f32) : FVec Ideal S1024x512 .f32 :=
  select (broadcastInDim S1024x512 ![0, 1] bcast_S1024x1_S1024x512_0_1 (broadcastInDim S1024x1 ![0] bcast_S1024_S1024x1_0
      (cmpi .eq a (broadcastInDim S1024 ![] bcast_S_S1024 (constantI S_ 32 (BitVec.ofNat 32 e.val))))))
    (out x u v e) y

/-- The reference's result. -/
def res : FVec Ideal S1024x512 .bf16 :=
  truncf .bf16 (step x a u v 3 (step x a u v 2 (step x a u v 1 (step x a u v 0
    (broadcastInDim S1024x512 ![] bcast_S_S1024x512 (constant S_ .f32 0x00000000#32)))))) bitsLt_bf16_f32

/-- The whole arrays the reference is given. -/
def whole : Whole where
  X g d := x (ix2 g d)
  A g := a (ix1 g)
  U e d k := u (ix3 e d k)
  V e k j := v (ix3 e k j)

theorem dot1_plain : dot_S1024x512_S512x1024_S1024x1024_1_0_0_1_n_n = DotDims.plain 1024 512 1024 := rfl
theorem dot2_plain : dot_S1024x1024_S1024x512_S1024x512_1_0_0_1_n_n = DotDims.plain 1024 1024 512 := rfl

theorem out_apply (e : Fin 4) (g : Fin 1024) (j : Fin 512) : out x u v e (ix2 g j) = (whole x a u v).at e g j := by
  unfold out
  rw [dot2_plain, StackMember.dotGeneral_plain_apply]
  unfold Whole.at expert
  refine Finset.sum_congr rfl fun k _ => ?_
  rw [shapeCast_1ab_ab_apply,
    extractStridedSlice_apply _ _ _ _ (ix3 e k j) (fun b => by
      match b with
      | ⟨0, _⟩ => rfl
      | ⟨1, _⟩ => exact (Nat.zero_add _).symm
      | ⟨2, _⟩ => exact (Nat.zero_add _).symm)]
  refine congrArg (fun z : EReal => z * (whole x a u v).V e k j) ?_
  rw [maximumf_apply, broadcastInDim_scalar_apply, dot1_plain, StackMember.dotGeneral_plain_apply]
  show max _ (Ideal.ofBits .f32 0x00000000#32) = _
  rw [Ideal.ofBits_zero_f32]
  refine congrArg (fun z : EReal => max z 0) (Finset.sum_congr rfl fun d _ => ?_)
  rw [shapeCast_1ab_ab_apply,
    extractStridedSlice_apply _ _ _ _ (ix3 e d k) (fun b => by
      match b with
      | ⟨0, _⟩ => rfl
      | ⟨1, _⟩ => exact (Nat.zero_add _).symm
      | ⟨2, _⟩ => exact (Nat.zero_add _).symm)]
  rfl

theorem step_apply (e : Fin 4) (y : FVec Ideal S1024x512 .f32) (g : Fin 1024) (j : Fin 512) :
    step x a u v e y (ix2 g j) = if (whole x a u v).A g = BitVec.ofNat 32 e.val then (whole x a u v).at e g j else y (ix2 g j) := by
  unfold step
  rw [select_apply, out_apply x a u v,
    broadcastInDim_apply _ _ _ (ix2 g j) (ix2 g 0) (fun b => by match b with | ⟨0, _⟩ => rfl | ⟨1, _⟩ => rfl),
    broadcastInDim_apply _ _ _ (ix2 g 0) (ix1 g) (fun b => by match b with | ⟨0, _⟩ => rfl)]
  show Scalar.select (BitVec.ofBool (a (ix1 g) == broadcastInDim S1024 ![] bcast_S_S1024 (constantI S_ 32 (BitVec.ofNat 32 e.val)) (ix1 g))) _ _
    = if a (ix1 g) = _ then _ else _
  rw [broadcastInDim_scalar_apply]
  show Scalar.select (BitVec.ofBool (a (ix1 g) == BitVec.ofNat 32 e.val)) _ _ = _
  unfold Scalar.select
  by_cases h : a (ix1 g) = BitVec.ofNat 32 e.val
  · simp [h]
  · have : (a (ix1 g) == BitVec.ofNat 32 e.val) = false := by simpa using h
    rw [this, if_neg h]; rfl

/-- The reference's result at token `g`. -/
theorem res_apply (g : Fin 1024) (j : Fin 512) : res x a u v (ix2 g j) = (whole x a u v).byTable g j := by
  unfold res
  rw [truncf_apply, step_apply, step_apply, step_apply, step_apply, broadcastInDim_scalar_apply]
  show (if _ then _ else if _ then _ else if _ then _ else if _ then _ else Ideal.ofBits .f32 0x00000000#32) = _
  rw [Ideal.ofBits_zero_f32]
  rfl

set_option backward.isDefEq.respectTransparency.types false in
/-- The reference's executions end with that result, and its arguments unchanged. -/
theorem run_res (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v49) = res (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (by unfold res step out; rfl), (h c).2⟩) (Cert.ReferenceIdeal.Value.run m ρ)

end Cert.MoeProof.Ref

end
-- ==== Proof.Talk.lean ====
/-
  The exchange's steps on one device: a signal to a neighbour, the barrier wait, a remote copy, the wait for a landing and
  the wait for a copy's own source, each over what the device still owes.
-/
module

public import proofs.«01_k».proof.Proof.Cells

@[expose] public section

noncomputable section

namespace Cert.MoeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (G : Args F) (κ : GSem nD τ sig → ℕ)

/-! ## The cells' invariants -/

def barCells : Finset (GSem nD τ sig) := Finset.univ.image barCell
def dmaCells : Finset (GSem nD τ sig) :=
  (Finset.univ.image fun x : Dev nD × Cp => sendCell x.1 x.2) ∪ (Finset.univ.image fun x : Dev nD × Cp => recvCell x.1 x.2)
def cells : Finset (GSem nD τ sig) := barCells ∪ dmaCells

theorem bar_mem (c : Dev nD) : barCell c ∈ cells :=
  Finset.mem_union_left _ (Finset.mem_image_of_mem _ (Finset.mem_univ c))
theorem send_mem (c : Dev nD) (p : Cp) : sendCell c p ∈ cells :=
  Finset.mem_union_right _ (Finset.mem_union_left _ (Finset.mem_image.mpr ⟨(c, p), Finset.mem_univ _, rfl⟩))
theorem recv_mem (c : Dev nD) (p : Cp) : recvCell c p ∈ cells :=
  Finset.mem_union_right _ (Finset.mem_union_right _ (Finset.mem_image.mpr ⟨(c, p), Finset.mem_univ _, rfl⟩))

/-- Every cell's invariant, under the names the launch allocated, and the levels. -/
def pers : sProp 𝕄 := iprop((bigSep cells fun g => cellInv ER (rd G) (κ g) g) ∗ levAts L lv)

instance pers_persistent : BI.Persistent (pers G κ) := by unfold pers; infer_instance

theorem pers_inv {g : GSem nD τ sig} (h : g ∈ cells) : pers G κ ⊢ cellInv ER (rd G) (κ g) g := by
  unfold pers
  iintro ⟨H, -⟩
  iapply (show (bigSep cells fun g => cellInv ER (rd G) (κ g) g) ⊢ (cellInv ER (rd G) (κ g) g : sProp 𝕄) from bigSep_elim h); iexact H
theorem pers_lev : pers G κ ⊢ (levAts L lv : sProp 𝕄) := by
  unfold pers
  iintro ⟨-, H⟩; iexact H

/-- What a device still owes, whatever its waits have recorded. -/
def ow (c : Dev nD) (n : ℕ) : sProp 𝕄 := iprop(∃ W : Waits sig Unit, owes (c : Thread nD τ) (owed c n) W)

/-! ## The barrier -/

/-- The signal to neighbour `d` lends it the landing places of its copies to this device. -/
theorem signal_step (c n : Dev nD) (d : Fin 3) {i j : ℕ} (hn : n = nb c d) (hi : rank (.inl d) = i) (hj : j = i + 1)
    {α : Type} {Q : α → sProp 𝕄} {k : PUnit → Prog (TpuEff nD τ sig (Elt F) Λ₀ .tc) α} :
    pers G κ ⊢ iprop(ow c i -∗ iprop(dutyTok ER (barCell (nb c d)) 0 d ∗ reached ER (barCell (nb c d)) 0) -∗ barPay (nb c d) d
        -∗ (ow c j -∗ run c (k ⟨⟩) Q) -∗ run c (.op (.semSignal (Dev.tc n : Thread nD τ) barS 1) k) Q) := by
  subst hn hi hj
  unfold ow
  iintro #HP ⟨%W, HO⟩ ⟨Ht, #Hr⟩ Hp Hk
  iapply (Rounds.wp_signal 𝒱₀ ER (rd G) (c : Thread nD τ) none (dst := (nb c d : Thread nD τ)) (κ := κ (barCell (nb c d)))
      (sem := barS) (r := 0) (d := d) (by rw [duties_bar]; exact Finset.mem_univ _) (amount_bar G (nb c d) d) () (owed c (rank (.inl d) + 1))
      (owed_step c (.inl d))) $$ [HO Ht Hp]
  · isplitr; · iapply (pers_inv G κ (bar_mem (nb c d))); iexact HP
    isplitl [HO]; · iexact HO
    isplitl [Ht]; · iexact Ht
    isplitl [Hp]; · rw [payload_bar]; iexact Hp
    iexact Hr
  iintro HO
  iapply Hk
  iexists W; iexact HO

/-- Past its one round a cell is closed by its owner, its counter at zero. -/
theorem close (g : GSem nD τ sig) (h : g ∈ cells) :
    iprop(pers G κ ∗ atPos ER g (0 + 1) ∅ 0) ⊢ (|={Set.univ}=> semVal g 0 : sProp 𝕄) := by
  iintro ⟨#HP, Ha⟩
  iapply (Rounds.cell_close ER (rd G) (Set.mem_univ (κ g)) id (duties_later G g))
  isplitr
  · iapply (pers_inv G κ h); iexact HP
  iexact Ha

/-- The barrier wait: the three neighbours' landing places come with it. -/
theorem barrier_step (c : Dev nD) {α : Type} {Q : α → sProp 𝕄} {k : PUnit → Prog (TpuEff nD τ sig (Elt F) Λ₀ .tc) α} :
    pers G κ ⊢ iprop(atPos ER (barCell c) 0 ∅ 0 -∗ cred (tallyAt (barCell c) () 3) -∗ ow c 3
        -∗ (ow c 3 -∗ semVal (barCell c) 0 -∗ iprop(barPay c 0 ∗ barPay c 1 ∗ barPay c 2) -∗ run c (k ⟨⟩) Q)
          -∗ run c (.op (.semWait barS 3) k) Q) := by
  unfold ow
  iintro #HP Ha Hc ⟨%W, HO⟩ Hk
  iapply (Rounds.wp_wait_rest_token 𝒱₀ ER (rd G) (c : Thread nD τ) none (κ := κ (barCell c))
      (wpE_semWait_eq 𝒱₀ (c : Thread nD τ) none Set.univ) (Set.mem_univ _) () (O := owed c 3) (W := W) (R := 0) (m := 0) (T := ∅)
      (by rw [expect_bar])) $$ [Ha Hc HO]
  · isplitr; · iapply (pers_inv G κ (bar_mem c)); iexact HP
    isplitl [Hc]; · iexact Hc
    isplitl [HO]; · iexact HO
    isplitr
    · iapply (mayWait c (.reg barS) 3 (by decide +kernel))
      iapply (pers_lev G κ); iexact HP
    iexact Ha
  iintro ⟨HO, Ha, -, Hpay⟩
  ihave Hp := (Entails.of_eq (rest_bar G c)) $$ Hpay
  icases Hp with ⟨Hp0, Hp1, Hp2⟩
  iapply (fupd_wp frame (wpE (defs₀ (F := F)) 𝒱₀ (c : Thread nD τ) none) Set.univ)
  imod (close G κ (barCell c) (bar_mem c)) $$ [Ha] with Hb
  · isplitr; · iexact HP
    iexact Ha
  imodintro
  iapply Hk $$ [HO] Hb
  · iexists (insert (SemLoc.reg barS, ()) W); iexact HO
  isplitl [Hp0]; · iexact Hp0
  isplitl [Hp1]; · iexact Hp1
  iexact Hp2

/-! ## A copy -/

/-- The tokens a copy pays with. -/
def lane (c : Dev nD) (p : Cp) : sProp 𝕄 :=
  iprop(dutyTok ER (sendCell c p) 0 0 ∗ reached ER (sendCell c p) 0 ∗ dutyTok ER (recvCell (peer c p) p) 0 0)

/-- A remote copy: it takes its source's share and the lent landing place, and leaves the credit of its own send cell. -/
theorem send_step (c n : Dev nD) (p : Cp) {i j : ℕ} (hn : n = peer c p) (hi : rank (.inr p) = i) (hj : j = i + 1)
    {s : Shape} {e : EltTy} {src : Memref sig .tc .vmem s e} {dst : Memref sig .tc .vmem s e} {q : PosShare TreeShare}
    (v : Dev nD → s.Idx → Elt F e) {sS sR : DmaSem sig} (hS : sS = sendS p) (hR : sR = recvS p)
    (hsrc : srcPts G c p = owns (c : Thread nD τ) src q (v c))
    (hany : dstAny (F := F) (peer c p) p = some_ (peer c p) dst)
    (hdst : dstPts G (peer c p) p = owns (peer c p : Thread nD τ) dst fullShare (v (peer (peer c p) p)))
    (hN : dst.view.dmaCredit = amt p)
    {hsc : (dst : Memref sig (Dev.tc n : Thread nD τ).2.kind .vmem s e).view.ref.isScScratch = false}
    {hsrc' : src.view.WordExact} {hdst' : dst.view.WordExact}
    {hsem : DmaTarget.Typed .vmem (.dma sR) (.remote (Dev.tc n : Thread nD τ) (dst : Memref sig .tc .vmem s e) (.dma sS) hsc)}
    {α : Type} {Q : α → sProp 𝕄} {k : PUnit → Prog (TpuEff nD τ sig (Elt F) Λ₀ .tc) α} :
    pers G κ ⊢ iprop(lane c p -∗ lent (peer c p) p -∗ owns (c : Thread nD τ) src q (v c) -∗ ow c i
        -∗ (ow c j -∗ cred (tallyAt (sendCell c p) () (amt p)) -∗ run c (k ⟨⟩) Q)
          -∗ run c (.op (.enqueueDma src (.remote (Dev.tc n : Thread nD τ) dst (.dma sS) hsc) (.dma sR) hsrc' hdst' hsem) k) Q) := by
  subst hn hi hj hS hR
  unfold ow lane lent
  rw [hany]
  unfold some_
  iintro #HP ⟨Ht, #Hr, Htr⟩ ⟨⟨%w, Hd⟩, #Hrr⟩ Hs ⟨%W, HO⟩ Hk
  ihave Hd' := (show owns (peer c p : Thread nD τ) dst fullShare w ⊢ iprop(∃ g, ⌜dst.view.read (Elt F) g = w⌝ ∗ dst.view.loc (peer c p : Thread nD τ) ↦[dst.view.set]{fullShare} g) from .rfl) $$ Hd
  icases Hd' with ⟨%fd, -, Hd⟩
  ihave Hs' := (show owns (c : Thread nD τ) src q (v c) ⊢ iprop(∃ g, ⌜src.view.read (Elt F) g = v c⌝ ∗ src.view.loc (c : Thread nD τ) ↦[src.view.set]{q} g) from .rfl) $$ Hs
  icases Hs' with ⟨%fs, %hfs, Hs⟩
  iapply (Rounds.wp_send_pointsTo 𝒱₀ ER (rd G) (c : Thread nD τ) none (c' := (peer c p : Thread nD τ)) (src := src) (dst := dst)
      (κ₁ := κ (sendCell c p)) (κ₂ := κ (recvCell (peer c p) p)) (sS := .dma (sendS p)) (sem := .dma (recvS p))
      (r₁ := 0) (r₂ := 0) (d₁ := 0) (d₂ := 0) (fs := fs) (fd := fd) (q := q)
      (by rw [duties_send]; exact Finset.mem_singleton_self _) (by rw [duties_recv]; exact Finset.mem_singleton_self _)
      () () (amt p) hN (amount_send G c p 0) (amount_recv G (peer c p) p 0) (owed c (rank (.inr p) + 1)) (owed_step c (.inr p)) (W := W)
      (by
        rw [payload_send, hsrc]; unfold owns
        iintro H; iexists fs; isplitr; · ipureintro; exact hfs
        iexact H)
      (by
        rw [payload_recv, hdst, peer_peer]; unfold owns
        iintro H; iexists (dst.view.write (Elt F) fd (src.view.read (Elt F) fs) Finset.univ)
        isplitr; · ipureintro; rw [hfs]; exact View.read_write_univ _ _
        iexact H)) $$ [Hs Hd HO Ht Htr]
  · isplitr; · iapply (pers_inv G κ (send_mem c p)); iexact HP
    isplitr; · iapply (pers_inv G κ (recv_mem (peer c p) p)); iexact HP
    isplitl [Hs]; · iexact Hs
    isplitl [Hd]; · iexact Hd
    isplitl [HO]; · iexact HO
    isplitl [Ht]; · iexact Ht
    isplitr; · iexact Hr
    isplitl [Htr]; · iexact Htr
    iexact Hrr
  iintro ⟨Hc, HO⟩
  iapply Hk $$ [HO]
  · iexists W; iexact HO
  iexact Hc

/-! ## The waits -/

/-- A wait for the one round of a cell of one duty, which is closed at once. -/
theorem wait_step (c : Dev nD) (n : ℕ) {s : DmaSem sig} {N : ℕ} {P : sProp 𝕄} (hmem : ((c : Thread nD τ), SemLoc.dma s) ∈ cells)
    (hexp : (rd G).expect ((c : Thread nD τ), .dma s) 0 = N)
    (hrest : bigSep ((rd G).duties ((c : Thread nD τ), .dma s) 0 \ ∅) (fun u => (rd G).payload ((c : Thread nD τ), .dma s) 0 u) = P)
    (hlv : ∀ u : Due, n ≤ rank u → lvR (role (.dma s)) < dueLv u)
    {sh sh' : Shape} {e e' : EltTy} {src : Memref sig .tc .vmem sh e} {dst : Memref sig .tc .vmem sh' e'}
    (hN : dst.view.dmaCredit = N) {h1 : src.view.WordExact} {h2 : dst.view.WordExact}
    {α : Type} {Q : α → sProp 𝕄} {k : PUnit → Prog (TpuEff nD τ sig (Elt F) Λ₀ .tc) α} :
    pers G κ ⊢ iprop(atPos ER ((c : Thread nD τ), .dma s) 0 ∅ 0 -∗ cred (tallyAt ((c : Thread nD τ), .dma s) () N) -∗ ow c n
        -∗ (ow c n -∗ semVal ((c : Thread nD τ), .dma s) 0 -∗ P -∗ run c (k ⟨⟩) Q)
          -∗ run c (.op (.waitDma2 s src dst h1 h2) k) Q) := by
  subst hN
  unfold ow
  iintro #HP Ha Hc ⟨%W, HO⟩ Hk
  iapply (Rounds.wp_wait_rest_token 𝒱₀ ER (rd G) (c : Thread nD τ) none (κ := κ ((c : Thread nD τ), .dma s))
      (wpE_waitDma2_eq 𝒱₀ (c : Thread nD τ) none Set.univ) (Set.mem_univ _) () (O := owed c n) (W := W) (R := 0) (m := 0) (T := ∅)
      (by rw [hexp, Nat.zero_add])) $$ [Ha Hc HO]
  · isplitr; · iapply (pers_inv G κ hmem); iexact HP
    isplitl [Hc]; · iexact Hc
    isplitl [HO]; · iexact HO
    isplitr
    · iapply (mayWait c (.dma s) n hlv)
      iapply (pers_lev G κ); iexact HP
    iexact Ha
  iintro ⟨HO, Ha, -, Hpay⟩
  ihave Hpay := (Entails.of_eq hrest) $$ Hpay
  iapply (fupd_wp frame (wpE (defs₀ (F := F)) 𝒱₀ (c : Thread nD τ) none) Set.univ)
  imod (close G κ ((c : Thread nD τ), .dma s) hmem) $$ [Ha] with Hb
  · isplitr; · iexact HP
    iexact Ha
  imodintro
  iapply Hk $$ [HO] Hb
  · iexists (insert (SemLoc.dma s, ()) W); iexact HO
  iexact Hpay

/-- What a device waits for a landing with. -/
def claim (c : Dev nD) (p : Cp) : sProp 𝕄 := iprop(atPos ER (recvCell c p) 0 ∅ 0 ∗ cred (tallyAt (recvCell c p) () (amt p)))

/-- The wait for a landing. -/
theorem recv_step (c : Dev nD) (p : Cp) (n : ℕ) {s : DmaSem sig} (hs : s = recvS p)
    (hlv : ∀ u : Due, n ≤ rank u → lvR (.recv p) < dueLv u)
    {sh sh' : Shape} {e e' : EltTy} {src : Memref sig .tc .vmem sh e} {dst : Memref sig .tc .vmem sh' e'}
    (hN : dst.view.dmaCredit = amt p) {h1 : src.view.WordExact} {h2 : dst.view.WordExact}
    {α : Type} {Q : α → sProp 𝕄} {k : PUnit → Prog (TpuEff nD τ sig (Elt F) Λ₀ .tc) α} :
    pers G κ ⊢ iprop(claim c p -∗ ow c n -∗ (ow c n -∗ semVal (recvCell c p) 0 -∗ dstPts G c p -∗ run c (k ⟨⟩) Q)
          -∗ run c (.op (.waitDma2 s src dst h1 h2) k) Q) := by
  subst hs
  unfold claim
  iintro #HP ⟨Ha, Hc⟩ HO
  iapply (wait_step G κ c n (recv_mem c p) (expect_recv G c p) (rest_recv G c p) (by rw [role_recv]; exact hlv) hN) $$ HP Ha Hc HO

theorem none_left (u : Due) : ¬ 17 ≤ rank u := by revert u; decide +kernel

/-- The wait for a copy's source, all dues paid. -/
theorem sent_step (c : Dev nD) (p : Cp) {s : DmaSem sig} (hs : s = sendS p)
    {sh sh' : Shape} {e e' : EltTy} {src : Memref sig .tc .vmem sh e} {dst : Memref sig .tc .vmem sh' e'}
    (hN : dst.view.dmaCredit = amt p) {h1 : src.view.WordExact} {h2 : dst.view.WordExact}
    {α : Type} {Q : α → sProp 𝕄} {k : PUnit → Prog (TpuEff nD τ sig (Elt F) Λ₀ .tc) α} :
    pers G κ ⊢ iprop(atPos ER (sendCell c p) 0 ∅ 0 -∗ cred (tallyAt (sendCell c p) () (amt p)) -∗ ow c 17
        -∗ (ow c 17 -∗ semVal (sendCell c p) 0 -∗ srcPts G c p -∗ run c (k ⟨⟩) Q)
          -∗ run c (.op (.waitDma2 s src dst h1 h2) k) Q) := by
  subst hs
  exact wait_step G κ c 17 (send_mem c p) (expect_send G c p) (rest_send G c p) (fun u hu => absurd hu (none_left u)) hN

end Cert.MoeProof

end
-- ==== Proof.Body.lean ====
/-
  The kernel's body on one device, run once at a symbolic device: from its staged arguments, its scratch and its part of
  the exchange to its result, everything else as it was and every semaphore at zero.
-/
module

public import proofs.«01_k».proof.Proof.Talk
public import proofs.«01_k».proof.Proof.Out
public import Idealize.ShloMosaic.Lib.MemrefSat
public import proofs.«01_k».proof.Proof.Gen.KernelIdeal.Skeleton

@[expose] public section

noncomputable section

namespace Cert.MoeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (G : Args F) (κ : GSem nD τ sig → ℕ) (c : Dev nD)

/-! ## Before and after -/

/-- A device's hold on one copy: the two duties it pays, its claim on what lands here, its send cell. -/
def hand (p : Cp) : sProp 𝕄 :=
  iprop(lane c p ∗ claim c p ∗ reached ER (recvCell c p) 0 ∗ atPos ER (sendCell c p) 0 ∅ 0)

/-- The eight scratch buffers at anything. -/
def scratch : sProp 𝕄 :=
  iprop(some_ c mB ∗ some_ c mBr ∗ some_ c mAr ∗ some_ c mP ∗ some_ c mPr ∗ some_ c mQ ∗ some_ c mQs ∗ some_ c mQd)

/-- The four staged arguments. -/
def staged : sProp 𝕄 :=
  iprop(owns (c : Thread nD τ) mX fullShare (G.x c) ∗ owns (c : Thread nD τ) mA fullShare (G.a c)
    ∗ owns (c : Thread nD τ) mW1 fullShare (G.w1 c) ∗ owns (c : Thread nD τ) mW2 fullShare (G.w2 c))

/-- A device's part of the exchange before it starts. -/
def talk : sProp 𝕄 :=
  iprop(pers G κ ∗ atPos ER (barCell c) 0 ∅ 0 ∗ cred (tallyAt (barCell c) () 3)
    ∗ (bigSep Finset.univ fun d : Fin 3 => iprop(dutyTok ER (barCell (nb c d)) 0 d ∗ reached ER (barCell (nb c d)) 0))
    ∗ (bigSep Finset.univ fun p : Cp => hand c p) ∗ ow c 0)

/-- Every counter of the exchange at zero. -/
def quiet : sProp 𝕄 :=
  iprop(semVal (barCell c) 0 ∗ bigSep Finset.univ fun p : Cp => iprop(semVal (sendCell c p) 0 ∗ semVal (recvCell c p) 0))

/-! ## Lending and returning -/

omit [FloatOps F] in
theorem some_intro {s : Shape} {e : EltTy} (M : Memref sig .tc .vmem s e) (w : s.Idx → Elt F e) :
    owns (c : Thread nD τ) M fullShare w ⊢ (some_ c M : sProp 𝕄) := by
  unfold some_; iintro H; iexists w; iexact H

omit [FloatOps F] in
theorem some_open {s : Shape} {e : EltTy} (M : Memref sig .tc .vmem s e) :
    (some_ c M : sProp 𝕄) ⊢ iprop(∃ w : s.Idx → Elt F e, owns (c : Thread nD τ) M fullShare w) := .rfl

theorem halve {s : Shape} {e : EltTy} (M : Memref sig .tc .vmem s e) (w : s.Idx → Elt F e) :
    (owns (c : Thread nD τ) M fullShare w : sProp 𝕄)
      ⊢ iprop(owns (c : Thread nD τ) M fullShare.left w ∗ owns (c : Thread nD τ) M fullShare.right w) :=
  (owns_halves (c : Thread nD τ) M fullShare w).1

theorem unhalve {s : Shape} {e : EltTy} (M : Memref sig .tc .vmem s e) (w : s.Idx → Elt F e) :
    (owns (c : Thread nD τ) M fullShare.left w : sProp 𝕄)
      ⊢ iprop(owns (c : Thread nD τ) M fullShare.right w -∗ owns (c : Thread nD τ) M fullShare w) := by
  iintro H H'
  iapply (owns_halves (c : Thread nD τ) M fullShare w).2
  isplitl [H]; · iexact H
  iexact H'

/-- A buffer's four slices, each at anything, are the buffer at anything. -/
theorem four_join {e : EltTy} (M : Memref sig .tc .vmem S256x512 e) :
    iprop(some_ c (sl M 0) ∗ some_ c (sl M 1) ∗ some_ c (sl M 2) ∗ some_ c (sl M 3)) ⊢ (some_ c M : sProp 𝕄) :=
  (Entails.of_eq (four _).symm).trans (some_join c M)

theorem four_gather {e : EltTy} (M : Memref sig .tc .vmem S256x512 e) :
    (some_ c (sl M 0) : sProp 𝕄) ⊢ iprop(some_ c (sl M 1) -∗ some_ c (sl M 2) -∗ some_ c (sl M 3) -∗ some_ c M) := by
  iintro H0 H1 H2 H3
  iapply (four_join c M)
  isplitl [H0]; · iexact H0
  isplitl [H1]; · iexact H1
  isplitl [H2]; · iexact H2
  iexact H3

omit [FloatOps F] in
theorem four_split {e : EltTy} (M : Memref sig .tc .vmem S256x512 e) :
    (some_ c M : sProp 𝕄) ⊢ iprop(some_ c (sl M 0) ∗ some_ c (sl M 1) ∗ some_ c (sl M 2) ∗ some_ c (sl M 3)) :=
  (some_split c M).trans (Entails.of_eq (four _))

omit [FloatOps F] in
theorem three {M : Type} [URA M] (Φ : Fin 3 → sProp M) : bigSep Finset.univ Φ = iprop(Φ 0 ∗ Φ 1 ∗ Φ 2) :=
  bigSep_univ_eq_bigSepL [(0 : Fin 3), 1, 2] (by decide) (by decide) Φ

omit [FloatOps F] in
/-- Four slices lent, each with its receive cell open. -/
theorem lend_four (f : Fin 4 → Cp) {e : EltTy} (M : Memref sig .tc .vmem S256x512 e) (hf : ∀ k, dstAny (F := F) c (f k) = some_ c (sl M k)) :
    (some_ c M : sProp 𝕄) ⊢ iprop(reached ER (recvCell c (f 0)) 0 -∗ reached ER (recvCell c (f 1)) 0 -∗ reached ER (recvCell c (f 2)) 0
      -∗ reached ER (recvCell c (f 3)) 0 -∗ bigSep Finset.univ fun k => lent c (f k)) := by
  rw [four]
  unfold lent
  rw [hf, hf, hf, hf]
  iintro H #R0 #R1 #R2 #R3
  ihave H := (four_split c M) $$ H
  icases H with ⟨H0, H1, H2, H3⟩
  isplitl [H0]; · isplitl [H0]; · iexact H0
                  iexact R0
  isplitl [H1]; · isplitl [H1]; · iexact H1
                  iexact R1
  isplitl [H2]; · isplitl [H2]; · iexact H2
                  iexact R2
  isplitl [H3]; · iexact H3
  iexact R3

omit [FloatOps F] in
/-- One landing place lent. -/
theorem lend_one (p : Cp) {s : Shape} {e : EltTy} (M : Memref sig .tc .vmem s e) (h : dstAny (F := F) c p = some_ c M) :
    (some_ c M : sProp 𝕄) ⊢ iprop(reached ER (recvCell c p) 0 -∗ lent c p) := by
  unfold lent
  rw [h]
  iintro H #R
  isplitl [H]; · iexact H
  iexact R

theorem pay_x : (bigSep Finset.univ fun k => lent (F := F) c (.ploc k)) ⊢ (barPay (nb c 0) 0 : sProp 𝕄) := by
  show _ ⊢ (bigSep Finset.univ fun k => lent (F := F) (xn (xn c)) (.ploc k)); rw [xn_xn]
theorem pay_y : iprop(lent (F := F) c .x ∗ lent (F := F) c .a ∗ bigSep Finset.univ fun k => lent (F := F) c (.ps k)) ⊢ (barPay (nb c 1) 1 : sProp 𝕄) := by
  show _ ⊢ iprop(lent (F := F) (yn (yn c)) .x ∗ lent (F := F) (yn (yn c)) .a ∗ bigSep Finset.univ fun k => lent (F := F) (yn (yn c)) (.ps k))
  rw [yn_yn]
theorem pay_d : (bigSep Finset.univ fun k => lent (F := F) c (.pd k)) ⊢ (barPay (nb c 2) 2 : sProp 𝕄) := by
  show _ ⊢ (bigSep Finset.univ fun k => lent (F := F) (dg (dg c)) (.pd k)); rw [dg_dg]

theorem got_x : (barPay c 0 : sProp 𝕄) ⊢ iprop(lent (peer c (.ploc 0)) (.ploc 0) ∗ lent (peer c (.ploc 1)) (.ploc 1)
    ∗ lent (peer c (.ploc 2)) (.ploc 2) ∗ lent (peer c (.ploc 3)) (.ploc 3)) := Entails.of_eq (four fun k => lent (F := F) (xn c) (.ploc k))
theorem got_y : (barPay c 1 : sProp 𝕄) ⊢ iprop(lent (peer c .x) .x ∗ lent (peer c .a) .a ∗ lent (peer c (.ps 0)) (.ps 0)
    ∗ lent (peer c (.ps 1)) (.ps 1) ∗ lent (peer c (.ps 2)) (.ps 2) ∗ lent (peer c (.ps 3)) (.ps 3)) := by
  rw [show iprop(lent (peer c (.ps 0)) (.ps 0) ∗ lent (peer c (.ps 1)) (.ps 1) ∗ lent (peer c (.ps 2)) (.ps 2) ∗ lent (peer c (.ps 3)) (.ps 3))
    = bigSep Finset.univ fun k => lent (F := F) (yn c) (.ps k) from (four fun k => lent (F := F) (yn c) (.ps k)).symm]
  exact .rfl
theorem got_d : (barPay c 2 : sProp 𝕄) ⊢ iprop(lent (peer c (.pd 0)) (.pd 0) ∗ lent (peer c (.pd 1)) (.pd 1)
    ∗ lent (peer c (.pd 2)) (.pd 2) ∗ lent (peer c (.pd 3)) (.pd 3)) := Entails.of_eq (four fun k => lent (F := F) (dg c) (.pd k))

theorem land_x : dstPts G c .x ⊢ (owns (c : Thread nD τ) mBr fullShare (xbV G (yn c)) : sProp 𝕄) := .rfl
theorem land_a : dstPts G c .a ⊢ (owns (c : Thread nD τ) mAr fullShare (G.a (yn c)) : sProp 𝕄) := .rfl
theorem land_p (k : Fin 4) : dstPts G c (.ploc k) ⊢ (owns (c : Thread nD τ) (sl mPr k) fullShare (plocV G k (xn c)) : sProp 𝕄) := .rfl
theorem land_s (k : Fin 4) : dstPts G c (.ps k) ⊢ (owns (c : Thread nD τ) (sl mQs k) fullShare (premV G k (yn c)) : sProp 𝕄) := .rfl
theorem land_d (k : Fin 4) : dstPts G c (.pd k) ⊢ (owns (c : Thread nD τ) (sl mQd k) fullShare (premV G k (dg c)) : sProp 𝕄) := .rfl

theorem back_x : srcPts G c .x ⊢ (owns (c : Thread nD τ) mB fullShare.left (xbV G c) : sProp 𝕄) := .rfl
theorem back_a : srcPts G c .a ⊢ (owns (c : Thread nD τ) mA fullShare.left (G.a c) : sProp 𝕄) := .rfl
/-- A slice of the results for the own half, sent and read: whole again. -/
theorem back_p (k : Fin 4) : srcPts G c (.ploc k) ⊢ iprop(owns (c : Thread nD τ) (sl mP k) fullShare.right (plocV G k c)
    -∗ (some_ c (sl mP k) : sProp 𝕄)) := by
  show owns (c : Thread nD τ) (sl mP k) fullShare.left (plocV G k c) ⊢ iprop(owns (c : Thread nD τ) (sl mP k) fullShare.right (plocV G k c) -∗ some_ c (sl mP k))
  iintro H H'
  iapply (some_intro c (sl mP k) (plocV G k c))
  iapply (unhalve c (sl mP k) (plocV G k c)) $$ H H'
/-- A slice of the results for the partner's half, sent twice: whole again. -/
theorem back_q (k : Fin 4) : srcPts G c (.ps k) ⊢ iprop(srcPts G c (.pd k) -∗ (some_ c (sl mQ k) : sProp 𝕄)) := by
  show owns (c : Thread nD τ) (sl mQ k) fullShare.left (premV G k c) ⊢ iprop(owns (c : Thread nD τ) (sl mQ k) fullShare.right (premV G k c) -∗ some_ c (sl mQ k))
  iintro H H'
  iapply (some_intro c (sl mQ k) (premV G k c))
  iapply (unhalve c (sl mQ k) (premV G k c)) $$ H H'

/-! ## The run -/

set_option maxHeartbeats 4000000 in
set_option maxRecDepth 65536 in
theorem body_run {Kt : PUnit → sProp 𝕄} :
    iprop((scratch c ∗ staged G c ∗ some_ c mO ∗ talk G κ c)
        ∗ (iprop(scratch c ∗ staged G c ∗ owns (c : Thread nD τ) mO fullShare (outV G c) ∗ quiet c ∗ ow c 17) -∗ Kt ⟨⟩))
      ⊢ run c (cc0_body mX (Memref.isWhole_whole _) mA (Memref.isWhole_whole _) mW1 (Memref.isWhole_whole _) mW2 (Memref.isWhole_whole _)
          mO (Memref.isWhole_whole _) mB (Memref.isWhole_whole _) mBr (Memref.isWhole_whole _) mAr (Memref.isWhole_whole _)
          mP (Memref.isWhole_whole _) mPr (Memref.isWhole_whole _) mQ (Memref.isWhole_whole _) mQs (Memref.isWhole_whole _)
          mQd (Memref.isWhole_whole _) cc0_scratch8 cc0_scratch9) Kt := by
  simp only [cc0_body_eq_skeleton]; unfold cc0_body_skel
  unfold scratch staged talk quiet
  iintro ⟨⟨⟨HB, HBr, HAr, HP, HPr, HQ, HQs, HQd⟩, ⟨HX, HA, H1, H2⟩, HOut, ⟨#HI, Hbp, Hbc, Hd, Hh, HO⟩⟩, Hk⟩
  ihave Hd := (Entails.of_eq (three _)) $$ Hd
  icases Hd with ⟨D0, D1, D2⟩
  ihave Hh := (Entails.of_eq (cps _)) $$ Hh
  unfold hand
  icases Hh with ⟨⟨Lx, Cx, #Rx, Ax⟩, ⟨La, Ca, #Ra, Aa⟩, ⟨Lp0, Cp0, #Rp0, Ap0⟩, ⟨Lp1, Cp1, #Rp1, Ap1⟩, ⟨Lp2, Cp2, #Rp2, Ap2⟩, ⟨Lp3, Cp3, #Rp3, Ap3⟩, ⟨Ls0, Cs0, #Rs0, As0⟩, ⟨Ls1, Cs1, #Rs1, As1⟩, ⟨Ls2, Cs2, #Rs2, As2⟩, ⟨Ls3, Cs3, #Rs3, As3⟩, ⟨Ld0, Cd0, #Rd0, Ad0⟩, ⟨Ld1, Cd1, #Rd1, Ad1⟩, ⟨Ld2, Cd2, #Rd2, Ad2⟩, ⟨Ld3, Cd3, #Rd3, Ad3⟩⟩
  simp only [k0_part1_eq_skeleton]; unfold k0_part1_skel
  simp only [semSignalWord, semWaitWord, Prog.lift, Prog.bind_op, Prog.bind_ret, Prog.pure_eq_ret, wp_deviceId]
  simp only [dev1 c, dev2 c, dev3 c]
  -- the three signals, each lending the landing places of that neighbour's copies
  ihave P0 := (lend_four c Cp.ploc mPr fun _ => rfl) $$ HPr Rp0 Rp1 Rp2 Rp3
  ihave P0 := (pay_x c) $$ P0
  iapply (signal_step G κ c _ 0 (i := 0) (j := 1) rfl rfl rfl) $$ HI HO D0 P0; iintro HO
  ihave P1 := (lend_four c Cp.ps mQs fun _ => rfl) $$ HQs Rs0 Rs1 Rs2 Rs3
  ihave PX := (lend_one c .x mBr rfl) $$ HBr Rx
  ihave PA := (lend_one c .a mAr rfl) $$ HAr Ra
  ihave P1 := (pay_y c) $$ [PX PA P1]
  · isplitl [PX]; · iexact PX
    isplitl [PA]; · iexact PA
    iexact P1
  iapply (signal_step G κ c _ 1 (i := 1) (j := 2) rfl rfl rfl) $$ HI HO D1 P1; iintro HO
  ihave P2 := (lend_four c Cp.pd mQd fun _ => rfl) $$ HQd Rd0 Rd1 Rd2 Rd3
  ihave P2 := (pay_d c) $$ P2
  iapply (signal_step G κ c _ 2 (i := 2) (j := 3) rfl rfl rfl) $$ HI HO D2 P2; iintro HO
  iapply (barrier_step G κ c) $$ HI Hbp Hbc HO; iintro HO Zb ⟨P0, P1, P2⟩
  ihave P0 := (got_x c) $$ P0; icases P0 with ⟨Tp0, Tp1, Tp2, Tp3⟩
  ihave P1 := (got_y c) $$ P1; icases P1 with ⟨Tx, Ta, Ts0, Ts1, Ts2, Ts3⟩
  ihave P2 := (got_d c) $$ P2; icases P2 with ⟨Td0, Td1, Td2, Td3⟩
  iapply (load_in c mX (rh c)) $$ HX; iintro HX
  ihave HB := (some_open c mB) $$ HB; icases HB with ⟨%wB, HB⟩
  ihave HOut := (some_open c mO) $$ HOut; icases HOut with ⟨%wO, HOut⟩
  iapply (load_in c mB _) $$ HB; iintro HB
  simp only [k0_part2_eq_skeleton]; unfold k0_part2_skel
  simp only [semSignalWord, semWaitWord, Prog.lift, Prog.bind_op, Prog.bind_ret, Prog.pure_eq_ret, wp_deviceId]
  iapply (store_over c mB _ (fun X => overlay_all _ X (xbV G c))) $$ HB; iintro HB
  ihave HB := (halve c mB _) $$ HB; icases HB with ⟨HBl, HBr⟩
  ihave HA := (halve c mA _) $$ HA; icases HA with ⟨HAl, HA⟩
  iapply (send_step G κ c _ .x (i := 3) (j := 4) (dev4 c) rfl rfl (xbV G) rfl rfl rfl rfl rfl rfl) $$ HI Lx Tx HBl HO; iintro HO Kx
  iapply (send_step G κ c _ .a (i := 4) (j := 5) (dev5 c) rfl rfl G.a rfl rfl rfl rfl rfl rfl) $$ HI La Ta HAl HO; iintro HO Ka
  iapply (load_in c mB (rk 0)) $$ HBr; iintro HBr
  iapply (load_in c mA (ra c 0)) $$ HA; iintro HA
  iapply (load_in c mW1 (r1 0)) $$ H1; iintro H1
  -- the own half, chunk by chunk
  ihave HP := (four_split c mP) $$ HP; icases HP with ⟨HP0, HP1, HP2, HP3⟩
  ihave HP0 := (some_open c (sl mP 0)) $$ HP0; icases HP0 with ⟨%wP0, HP0⟩
  ihave HP1 := (some_open c (sl mP 1)) $$ HP1; icases HP1 with ⟨%wP1, HP1⟩
  ihave HP2 := (some_open c (sl mP 2)) $$ HP2; icases HP2 with ⟨%wP2, HP2⟩
  ihave HP3 := (some_open c (sl mP 3)) $$ HP3; icases HP3 with ⟨%wP3, HP3⟩
  ihave HQ := (four_split c mQ) $$ HQ; icases HQ with ⟨HQ0, HQ1, HQ2, HQ3⟩
  ihave HQ0 := (some_open c (sl mQ 0)) $$ HQ0; icases HQ0 with ⟨%wQ0, HQ0⟩
  ihave HQ1 := (some_open c (sl mQ 1)) $$ HQ1; icases HQ1 with ⟨%wQ1, HQ1⟩
  ihave HQ2 := (some_open c (sl mQ 2)) $$ HQ2; icases HQ2 with ⟨%wQ2, HQ2⟩
  ihave HQ3 := (some_open c (sl mQ 3)) $$ HQ3; icases HQ3 with ⟨%wQ3, HQ3⟩
  simp only [k0_part3_eq_skeleton]; unfold k0_part3_skel
  simp only [semSignalWord, semWaitWord, Prog.lift, Prog.bind_op, Prog.bind_ret, Prog.pure_eq_ret, wp_deviceId]
  iapply (load_in c mW2 (r2 0)) $$ H2; iintro H2
  iapply (load_in c mW1 (r1 1)) $$ H1; iintro H1
  iapply (load_in c mW2 (r2 1)) $$ H2; iintro H2
  iapply (load_at c mP (rk 0) (rk_one 0)) $$ HP0; iintro HP0
  iapply (store_eq c mP (rk 0) (rk_one 0) (w' := plocV G 0 c) (own0 (myY c) (at_ (rk 0) (xbV G c)) (at_ (ra c 0) (G.a c)) (G.w1 c) (G.w2 c))) $$ HP0; iintro HP0
  ihave HP0 := (halve c (sl mP 0) _) $$ HP0; icases HP0 with ⟨Hl, HP0⟩
  simp only [k0_part4_eq_skeleton]; unfold k0_part4_skel
  simp only [semSignalWord, semWaitWord, Prog.lift, Prog.bind_op, Prog.bind_ret, Prog.pure_eq_ret, wp_deviceId]
  iapply (send_step G κ c _ (.ploc 0) (i := 5) (j := 6) (dev6 c) rfl rfl (plocV G 0) rfl rfl rfl rfl rfl rfl) $$ HI Lp0 Tp0 Hl HO; iintro HO Kp0
  iapply (load_in c mB (rk 1)) $$ HBr; iintro HBr
  iapply (load_in c mA (ra c 1)) $$ HA; iintro HA
  iapply (load_in c mW1 (r1 0)) $$ H1; iintro H1
  iapply (load_in c mW2 (r2 0)) $$ H2; iintro H2
  iapply (load_in c mW1 (r1 1)) $$ H1; iintro H1
  simp only [k0_part5_eq_skeleton]; unfold k0_part5_skel
  simp only [semSignalWord, semWaitWord, Prog.lift, Prog.bind_op, Prog.bind_ret, Prog.pure_eq_ret, wp_deviceId]
  iapply (load_in c mW2 (r2 1)) $$ H2; iintro H2
  iapply (load_at c mP (rk 1) (rk_one 1)) $$ HP1; iintro HP1
  iapply (store_eq c mP (rk 1) (rk_one 1) (w' := plocV G 1 c) (own1 (myY c) (at_ (rk 1) (xbV G c)) (at_ (ra c 1) (G.a c)) (G.w1 c) (G.w2 c))) $$ HP1; iintro HP1
  ihave HP1 := (halve c (sl mP 1) _) $$ HP1; icases HP1 with ⟨Hl, HP1⟩
  iapply (send_step G κ c _ (.ploc 1) (i := 6) (j := 7) (dev7 c) rfl rfl (plocV G 1) rfl rfl rfl rfl rfl rfl) $$ HI Lp1 Tp1 Hl HO; iintro HO Kp1
  iapply (load_in c mB (rk 2)) $$ HBr; iintro HBr
  iapply (load_in c mA (ra c 2)) $$ HA; iintro HA
  simp only [k0_part6_eq_skeleton]; unfold k0_part6_skel
  simp only [semSignalWord, semWaitWord, Prog.lift, Prog.bind_op, Prog.bind_ret, Prog.pure_eq_ret, wp_deviceId]
  iapply (load_in c mW1 (r1 0)) $$ H1; iintro H1
  iapply (load_in c mW2 (r2 0)) $$ H2; iintro H2
  iapply (load_in c mW1 (r1 1)) $$ H1; iintro H1
  iapply (load_in c mW2 (r2 1)) $$ H2; iintro H2
  simp only [k0_part7_eq_skeleton]; unfold k0_part7_skel
  simp only [semSignalWord, semWaitWord, Prog.lift, Prog.bind_op, Prog.bind_ret, Prog.pure_eq_ret, wp_deviceId]
  iapply (load_at c mP (rk 2) (rk_one 2)) $$ HP2; iintro HP2
  iapply (store_eq c mP (rk 2) (rk_one 2) (w' := plocV G 2 c) (own2 (myY c) (at_ (rk 2) (xbV G c)) (at_ (ra c 2) (G.a c)) (G.w1 c) (G.w2 c))) $$ HP2; iintro HP2
  ihave HP2 := (halve c (sl mP 2) _) $$ HP2; icases HP2 with ⟨Hl, HP2⟩
  iapply (send_step G κ c _ (.ploc 2) (i := 7) (j := 8) (dev8 c) rfl rfl (plocV G 2) rfl rfl rfl rfl rfl rfl) $$ HI Lp2 Tp2 Hl HO; iintro HO Kp2
  iapply (load_in c mB (rk 3)) $$ HBr; iintro HBr
  iapply (load_in c mA (ra c 3)) $$ HA; iintro HA
  iapply (load_in c mW1 (r1 0)) $$ H1; iintro H1
  iapply (load_in c mW2 (r2 0)) $$ H2; iintro H2
  simp only [k0_part8_eq_skeleton]; unfold k0_part8_skel
  simp only [semSignalWord, semWaitWord, Prog.lift, Prog.bind_op, Prog.bind_ret, Prog.pure_eq_ret, wp_deviceId]
  iapply (load_in c mW1 (r1 1)) $$ H1; iintro H1
  iapply (load_in c mW2 (r2 1)) $$ H2; iintro H2
  iapply (load_at c mP (rk 3) (rk_one 3)) $$ HP3; iintro HP3
  iapply (store_eq c mP (rk 3) (rk_one 3) (w' := plocV G 3 c) (own3 (myY c) (at_ (rk 3) (xbV G c)) (at_ (ra c 3) (G.a c)) (G.w1 c) (G.w2 c))) $$ HP3; iintro HP3
  ihave HP3 := (halve c (sl mP 3) _) $$ HP3; icases HP3 with ⟨Hl, HP3⟩
  simp only [k0_part9_eq_skeleton]; unfold k0_part9_skel
  simp only [semSignalWord, semWaitWord, Prog.lift, Prog.bind_op, Prog.bind_ret, Prog.pure_eq_ret, wp_deviceId]
  iapply (send_step G κ c _ (.ploc 3) (i := 8) (j := 9) (dev9 c) rfl rfl (plocV G 3) rfl rfl rfl rfl rfl rfl) $$ HI Lp3 Tp3 Hl HO; iintro HO Kp3
  -- the partner's half, chunk by chunk
  iapply (recv_step G κ c .x 9 rfl (by decide +kernel) rfl) $$ HI Cx HO; iintro HO Zx Wx
  ihave Wx := (land_x G c) $$ Wx
  iapply (recv_step G κ c .a 9 rfl (by decide +kernel) rfl) $$ HI Ca HO; iintro HO Za Wa
  ihave Wa := (land_a G c) $$ Wa
  iapply (load_in c mBr (rk 0)) $$ Wx; iintro Wx
  iapply (load_in c mAr (ra c 0)) $$ Wa; iintro Wa
  iapply (load_in c mW1 (r1 0)) $$ H1; iintro H1
  iapply (load_in c mW2 (r2 0)) $$ H2; iintro H2
  simp only [k0_part10_eq_skeleton]; unfold k0_part10_skel
  simp only [semSignalWord, semWaitWord, Prog.lift, Prog.bind_op, Prog.bind_ret, Prog.pure_eq_ret, wp_deviceId]
  iapply (load_in c mW1 (r1 1)) $$ H1; iintro H1
  iapply (load_in c mW2 (r2 1)) $$ H2; iintro H2
  iapply (load_at c mQ (rk 0) (rk_one 0)) $$ HQ0; iintro HQ0
  iapply (store_eq c mQ (rk 0) (rk_one 0) (w' := premV G 0 c) (other0 (myY c) (at_ (rk 0) (xbV G (yn c))) (at_ (ra c 0) (G.a (yn c))) (G.w1 c) (G.w2 c))) $$ HQ0; iintro HQ0
  ihave HQ0 := (halve c (sl mQ 0) _) $$ HQ0; icases HQ0 with ⟨Hl, Hr⟩
  simp only [k0_part11_eq_skeleton]; unfold k0_part11_skel
  simp only [semSignalWord, semWaitWord, Prog.lift, Prog.bind_op, Prog.bind_ret, Prog.pure_eq_ret, wp_deviceId]
  iapply (send_step G κ c _ (.ps 0) (i := 9) (j := 10) (dev10 c) rfl rfl (premV G 0) rfl rfl rfl rfl rfl rfl) $$ HI Ls0 Ts0 Hl HO; iintro HO Ks0
  iapply (send_step G κ c _ (.pd 0) (i := 10) (j := 11) (dev11 c) rfl rfl (premV G 0) rfl rfl rfl rfl rfl rfl) $$ HI Ld0 Td0 Hr HO; iintro HO Kd0
  iapply (load_in c mBr (rk 1)) $$ Wx; iintro Wx
  iapply (load_in c mAr (ra c 1)) $$ Wa; iintro Wa
  iapply (load_in c mW1 (r1 0)) $$ H1; iintro H1
  iapply (load_in c mW2 (r2 0)) $$ H2; iintro H2
  simp only [k0_part12_eq_skeleton]; unfold k0_part12_skel
  simp only [semSignalWord, semWaitWord, Prog.lift, Prog.bind_op, Prog.bind_ret, Prog.pure_eq_ret, wp_deviceId]
  iapply (load_in c mW1 (r1 1)) $$ H1; iintro H1
  iapply (load_in c mW2 (r2 1)) $$ H2; iintro H2
  iapply (load_at c mQ (rk 1) (rk_one 1)) $$ HQ1; iintro HQ1
  iapply (store_eq c mQ (rk 1) (rk_one 1) (w' := premV G 1 c) (other1 (myY c) (at_ (rk 1) (xbV G (yn c))) (at_ (ra c 1) (G.a (yn c))) (G.w1 c) (G.w2 c))) $$ HQ1; iintro HQ1
  ihave HQ1 := (halve c (sl mQ 1) _) $$ HQ1; icases HQ1 with ⟨Hl, Hr⟩
  simp only [k0_part13_eq_skeleton]; unfold k0_part13_skel
  simp only [semSignalWord, semWaitWord, Prog.lift, Prog.bind_op, Prog.bind_ret, Prog.pure_eq_ret, wp_deviceId]
  iapply (send_step G κ c _ (.ps 1) (i := 11) (j := 12) (dev12 c) rfl rfl (premV G 1) rfl rfl rfl rfl rfl rfl) $$ HI Ls1 Ts1 Hl HO; iintro HO Ks1
  iapply (send_step G κ c _ (.pd 1) (i := 12) (j := 13) (dev13 c) rfl rfl (premV G 1) rfl rfl rfl rfl rfl rfl) $$ HI Ld1 Td1 Hr HO; iintro HO Kd1
  iapply (load_in c mBr (rk 2)) $$ Wx; iintro Wx
  iapply (load_in c mAr (ra c 2)) $$ Wa; iintro Wa
  iapply (load_in c mW1 (r1 0)) $$ H1; iintro H1
  iapply (load_in c mW2 (r2 0)) $$ H2; iintro H2
  simp only [k0_part14_eq_skeleton]; unfold k0_part14_skel
  simp only [semSignalWord, semWaitWord, Prog.lift, Prog.bind_op, Prog.bind_ret, Prog.pure_eq_ret, wp_deviceId]
  iapply (load_in c mW1 (r1 1)) $$ H1; iintro H1
  iapply (load_in c mW2 (r2 1)) $$ H2; iintro H2
  iapply (load_at c mQ (rk 2) (rk_one 2)) $$ HQ2; iintro HQ2
  iapply (store_eq c mQ (rk 2) (rk_one 2) (w' := premV G 2 c) (other2 (myY c) (at_ (rk 2) (xbV G (yn c))) (at_ (ra c 2) (G.a (yn c))) (G.w1 c) (G.w2 c))) $$ HQ2; iintro HQ2
  ihave HQ2 := (halve c (sl mQ 2) _) $$ HQ2; icases HQ2 with ⟨Hl, Hr⟩
  iapply (send_step G κ c _ (.ps 2) (i := 13) (j := 14) (dev14 c) rfl rfl (premV G 2) rfl rfl rfl rfl rfl rfl) $$ HI Ls2 Ts2 Hl HO; iintro HO Ks2
  simp only [k0_part15_eq_skeleton]; unfold k0_part15_skel
  simp only [semSignalWord, semWaitWord, Prog.lift, Prog.bind_op, Prog.bind_ret, Prog.pure_eq_ret, wp_deviceId]
  iapply (send_step G κ c _ (.pd 2) (i := 14) (j := 15) (dev15 c) rfl rfl (premV G 2) rfl rfl rfl rfl rfl rfl) $$ HI Ld2 Td2 Hr HO; iintro HO Kd2
  iapply (load_in c mBr (rk 3)) $$ Wx; iintro Wx
  iapply (load_in c mAr (ra c 3)) $$ Wa; iintro Wa
  iapply (load_in c mW1 (r1 0)) $$ H1; iintro H1
  iapply (load_in c mW2 (r2 0)) $$ H2; iintro H2
  simp only [k0_part16_eq_skeleton]; unfold k0_part16_skel
  simp only [semSignalWord, semWaitWord, Prog.lift, Prog.bind_op, Prog.bind_ret, Prog.pure_eq_ret, wp_deviceId]
  iapply (load_in c mW1 (r1 1)) $$ H1; iintro H1
  iapply (load_in c mW2 (r2 1)) $$ H2; iintro H2
  iapply (load_at c mQ (rk 3) (rk_one 3)) $$ HQ3; iintro HQ3
  iapply (store_eq c mQ (rk 3) (rk_one 3) (w' := premV G 3 c) (other3 (myY c) (at_ (rk 3) (xbV G (yn c))) (at_ (ra c 3) (G.a (yn c))) (G.w1 c) (G.w2 c))) $$ HQ3; iintro HQ3
  ihave HQ3 := (halve c (sl mQ 3) _) $$ HQ3; icases HQ3 with ⟨Hl, Hr⟩
  iapply (send_step G κ c _ (.ps 3) (i := 15) (j := 16) (dev16 c) rfl rfl (premV G 3) rfl rfl rfl rfl rfl rfl) $$ HI Ls3 Ts3 Hl HO; iintro HO Ks3
  simp only [k0_part17_eq_skeleton]; unfold k0_part17_skel
  simp only [semSignalWord, semWaitWord, Prog.lift, Prog.bind_op, Prog.bind_ret, Prog.pure_eq_ret, wp_deviceId]
  iapply (send_step G κ c _ (.pd 3) (i := 16) (j := 17) (dev17 c) rfl rfl (premV G 3) rfl rfl rfl rfl rfl rfl) $$ HI Ld3 Td3 Hr HO; iintro HO Kd3
  -- the result's own half
  iapply (recv_step G κ c (.ps 0) 17 rfl (by decide +kernel) rfl) $$ HI Cs0 HO; iintro HO Zs0 Ws0
  ihave Ws0 := (land_s G c 0) $$ Ws0
  iapply (load_at c mP (rk 0) (rk_one 0)) $$ HP0; iintro HP0
  iapply (load_at c mQs (rk 0) (rk_one 0)) $$ Ws0; iintro Ws0
  iapply (load_in c mO (ro c 0)) $$ HOut; iintro HOut
  iapply (store_in_eq c mO (ro c 0) (w' := ownV G 0 c) (sum33 _ _)) $$ HOut; iintro HOut
  simp only [k0_part18_eq_skeleton]; unfold k0_part18_skel
  simp only [semSignalWord, semWaitWord, Prog.lift, Prog.bind_op, Prog.bind_ret, Prog.pure_eq_ret, wp_deviceId]
  iapply (recv_step G κ c (.ps 1) 17 rfl (by decide +kernel) rfl) $$ HI Cs1 HO; iintro HO Zs1 Ws1
  ihave Ws1 := (land_s G c 1) $$ Ws1
  iapply (load_at c mP (rk 1) (rk_one 1)) $$ HP1; iintro HP1
  iapply (load_at c mQs (rk 1) (rk_one 1)) $$ Ws1; iintro Ws1
  iapply (load_in c mO (ro c 1)) $$ HOut; iintro HOut
  iapply (store_in_eq c mO (ro c 1) (w' := ownV G 1 c) (sum34 _ _)) $$ HOut; iintro HOut
  iapply (recv_step G κ c (.ps 2) 17 rfl (by decide +kernel) rfl) $$ HI Cs2 HO; iintro HO Zs2 Ws2
  ihave Ws2 := (land_s G c 2) $$ Ws2
  iapply (load_at c mP (rk 2) (rk_one 2)) $$ HP2; iintro HP2
  iapply (load_at c mQs (rk 2) (rk_one 2)) $$ Ws2; iintro Ws2
  iapply (load_in c mO (ro c 2)) $$ HOut; iintro HOut
  iapply (store_in_eq c mO (ro c 2) (w' := ownV G 2 c) (sum35 _ _)) $$ HOut; iintro HOut
  simp only [k0_part19_eq_skeleton]; unfold k0_part19_skel
  simp only [semSignalWord, semWaitWord, Prog.lift, Prog.bind_op, Prog.bind_ret, Prog.pure_eq_ret, wp_deviceId]
  iapply (recv_step G κ c (.ps 3) 17 rfl (by decide +kernel) rfl) $$ HI Cs3 HO; iintro HO Zs3 Ws3
  ihave Ws3 := (land_s G c 3) $$ Ws3
  iapply (load_at c mP (rk 3) (rk_one 3)) $$ HP3; iintro HP3
  iapply (load_at c mQs (rk 3) (rk_one 3)) $$ Ws3; iintro Ws3
  iapply (load_in c mO (ro c 3)) $$ HOut; iintro HOut
  iapply (store_in_eq c mO (ro c 3) (w' := ownV G 3 c) (sum36 _ _)) $$ HOut; iintro HOut
  -- and its other half
  iapply (recv_step G κ c (.ploc 0) 17 rfl (by decide +kernel) rfl) $$ HI Cp0 HO; iintro HO Zp0 Wp0
  ihave Wp0 := (land_p G c 0) $$ Wp0
  iapply (recv_step G κ c (.pd 0) 17 rfl (by decide +kernel) rfl) $$ HI Cd0 HO; iintro HO Zd0 Wd0
  ihave Wd0 := (land_d G c 0) $$ Wd0
  simp only [k0_part20_eq_skeleton]; unfold k0_part20_skel
  simp only [semSignalWord, semWaitWord, Prog.lift, Prog.bind_op, Prog.bind_ret, Prog.pure_eq_ret, wp_deviceId]
  iapply (load_at c mPr (rk 0) (rk_one 0)) $$ Wp0; iintro Wp0
  iapply (load_at c mQd (rk 0) (rk_one 0)) $$ Wd0; iintro Wd0
  iapply (load_in c mO (rt c 0)) $$ HOut; iintro HOut
  iapply (store_in_eq c mO (rt c 0) (w' := otherV G 0 c) (sum37 _ _)) $$ HOut; iintro HOut
  iapply (recv_step G κ c (.ploc 1) 17 rfl (by decide +kernel) rfl) $$ HI Cp1 HO; iintro HO Zp1 Wp1
  ihave Wp1 := (land_p G c 1) $$ Wp1
  iapply (recv_step G κ c (.pd 1) 17 rfl (by decide +kernel) rfl) $$ HI Cd1 HO; iintro HO Zd1 Wd1
  ihave Wd1 := (land_d G c 1) $$ Wd1
  iapply (load_at c mPr (rk 1) (rk_one 1)) $$ Wp1; iintro Wp1
  iapply (load_at c mQd (rk 1) (rk_one 1)) $$ Wd1; iintro Wd1
  iapply (load_in c mO (rt c 1)) $$ HOut; iintro HOut
  simp only [k0_part21_eq_skeleton]; unfold k0_part21_skel
  simp only [semSignalWord, semWaitWord, Prog.lift, Prog.bind_op, Prog.bind_ret, Prog.pure_eq_ret, wp_deviceId]
  iapply (store_in_eq c mO (rt c 1) (w' := otherV G 1 c) (sum38 _ _)) $$ HOut; iintro HOut
  iapply (recv_step G κ c (.ploc 2) 17 rfl (by decide +kernel) rfl) $$ HI Cp2 HO; iintro HO Zp2 Wp2
  ihave Wp2 := (land_p G c 2) $$ Wp2
  iapply (recv_step G κ c (.pd 2) 17 rfl (by decide +kernel) rfl) $$ HI Cd2 HO; iintro HO Zd2 Wd2
  ihave Wd2 := (land_d G c 2) $$ Wd2
  iapply (load_at c mPr (rk 2) (rk_one 2)) $$ Wp2; iintro Wp2
  iapply (load_at c mQd (rk 2) (rk_one 2)) $$ Wd2; iintro Wd2
  iapply (load_in c mO (rt c 2)) $$ HOut; iintro HOut
  iapply (store_in_eq c mO (rt c 2) (w' := otherV G 2 c) (sum39 _ _)) $$ HOut; iintro HOut
  simp only [k0_part22_eq_skeleton]; unfold k0_part22_skel
  simp only [semSignalWord, semWaitWord, Prog.lift, Prog.bind_op, Prog.bind_ret, Prog.pure_eq_ret, wp_deviceId]
  iapply (recv_step G κ c (.ploc 3) 17 rfl (by decide +kernel) rfl) $$ HI Cp3 HO; iintro HO Zp3 Wp3
  ihave Wp3 := (land_p G c 3) $$ Wp3
  iapply (recv_step G κ c (.pd 3) 17 rfl (by decide +kernel) rfl) $$ HI Cd3 HO; iintro HO Zd3 Wd3
  ihave Wd3 := (land_d G c 3) $$ Wd3
  iapply (load_at c mPr (rk 3) (rk_one 3)) $$ Wp3; iintro Wp3
  iapply (load_at c mQd (rk 3) (rk_one 3)) $$ Wd3; iintro Wd3
  iapply (load_in c mO (rt c 3)) $$ HOut; iintro HOut
  iapply (store_in_eq c mO (rt c 3) (w' := otherV G 3 c) (sum40 _ _)) $$ HOut; iintro HOut
  ihave HOut := (Entails.of_eq (congrArg (fun w => (owns (c : Thread nD τ) mO fullShare w : sProp 𝕄)) (out_done G c wO))) $$ HOut
  -- the sends drained
  iapply (sent_step G κ c .x rfl (dst := mB) rfl) $$ HI Ax Kx HO; iintro HO Yx Vx
  iapply (sent_step G κ c .a rfl (dst := mA) rfl) $$ HI Aa Ka HO; iintro HO Ya Va
  simp only [k0_part23_eq_skeleton]; unfold k0_part23_skel
  simp only [semSignalWord, semWaitWord, Prog.lift, Prog.bind_op, Prog.bind_ret, Prog.pure_eq_ret, wp_deviceId]
  iapply (sent_step G κ c (.ploc 0) rfl (dst := (sl mP 0)) rfl) $$ HI Ap0 Kp0 HO; iintro HO Yp0 Vp0
  iapply (sent_step G κ c (.ploc 1) rfl (dst := (sl mP 1)) rfl) $$ HI Ap1 Kp1 HO; iintro HO Yp1 Vp1
  iapply (sent_step G κ c (.ploc 2) rfl (dst := (sl mP 2)) rfl) $$ HI Ap2 Kp2 HO; iintro HO Yp2 Vp2
  iapply (sent_step G κ c (.ploc 3) rfl (dst := (sl mP 3)) rfl) $$ HI Ap3 Kp3 HO; iintro HO Yp3 Vp3
  iapply (sent_step G κ c (.ps 0) rfl (dst := (sl mQ 0)) rfl) $$ HI As0 Ks0 HO; iintro HO Ys0 Vs0
  simp only [k0_part24_eq_skeleton]; unfold k0_part24_skel
  simp only [semSignalWord, semWaitWord, Prog.lift, Prog.bind_op, Prog.bind_ret, Prog.pure_eq_ret, wp_deviceId]
  iapply (sent_step G κ c (.pd 0) rfl (dst := (sl mQ 0)) rfl) $$ HI Ad0 Kd0 HO; iintro HO Yd0 Vd0
  iapply (sent_step G κ c (.ps 1) rfl (dst := (sl mQ 1)) rfl) $$ HI As1 Ks1 HO; iintro HO Ys1 Vs1
  iapply (sent_step G κ c (.pd 1) rfl (dst := (sl mQ 1)) rfl) $$ HI Ad1 Kd1 HO; iintro HO Yd1 Vd1
  iapply (sent_step G κ c (.ps 2) rfl (dst := (sl mQ 2)) rfl) $$ HI As2 Ks2 HO; iintro HO Ys2 Vs2
  iapply (sent_step G κ c (.pd 2) rfl (dst := (sl mQ 2)) rfl) $$ HI Ad2 Kd2 HO; iintro HO Yd2 Vd2
  iapply (sent_step G κ c (.ps 3) rfl (dst := (sl mQ 3)) rfl) $$ HI As3 Ks3 HO; iintro HO Ys3 Vs3
  iapply (sent_step G κ c (.pd 3) rfl (dst := (sl mQ 3)) rfl) $$ HI Ad3 Kd3 HO; iintro HO Yd3 Vd3
  -- everything put back
  ihave HB := (back_x G c) $$ Vx; ihave HB := (unhalve c mB (xbV G c)) $$ HB HBr; ihave HB := (some_intro c mB _) $$ HB
  ihave HBr := (some_intro c mBr _) $$ Wx; ihave HAr := (some_intro c mAr _) $$ Wa
  ihave HAl := (back_a G c) $$ Va; ihave HA := (unhalve c mA (G.a c)) $$ HAl HA
  ihave HP0 := (back_p G c 0) $$ Vp0 HP0; ihave HQ0 := (back_q G c 0) $$ Vs0 Vd0
  ihave Wp0 := (some_intro c (sl mPr 0) _) $$ Wp0; ihave Ws0 := (some_intro c (sl mQs 0) _) $$ Ws0; ihave Wd0 := (some_intro c (sl mQd 0) _) $$ Wd0
  ihave HP1 := (back_p G c 1) $$ Vp1 HP1; ihave HQ1 := (back_q G c 1) $$ Vs1 Vd1
  ihave Wp1 := (some_intro c (sl mPr 1) _) $$ Wp1; ihave Ws1 := (some_intro c (sl mQs 1) _) $$ Ws1; ihave Wd1 := (some_intro c (sl mQd 1) _) $$ Wd1
  ihave HP2 := (back_p G c 2) $$ Vp2 HP2; ihave HQ2 := (back_q G c 2) $$ Vs2 Vd2
  ihave Wp2 := (some_intro c (sl mPr 2) _) $$ Wp2; ihave Ws2 := (some_intro c (sl mQs 2) _) $$ Ws2; ihave Wd2 := (some_intro c (sl mQd 2) _) $$ Wd2
  ihave HP3 := (back_p G c 3) $$ Vp3 HP3; ihave HQ3 := (back_q G c 3) $$ Vs3 Vd3
  ihave Wp3 := (some_intro c (sl mPr 3) _) $$ Wp3; ihave Ws3 := (some_intro c (sl mQs 3) _) $$ Ws3; ihave Wd3 := (some_intro c (sl mQd 3) _) $$ Wd3
  unfold run; rw [wp_ret]; imodintro
  iapply Hk
  isplitl [HB HBr HAr HP0 HP1 HP2 HP3 HQ0 HQ1 HQ2 HQ3 Wp0 Wp1 Wp2 Wp3 Ws0 Ws1 Ws2 Ws3 Wd0 Wd1 Wd2 Wd3]
  · isplitl [HB]; · iexact HB
    isplitl [HBr]; · iexact HBr
    isplitl [HAr]; · iexact HAr
    isplitl [HP0 HP1 HP2 HP3]; · iapply (four_gather c mP) $$ HP0 HP1 HP2 HP3
    isplitl [Wp0 Wp1 Wp2 Wp3]; · iapply (four_gather c mPr) $$ Wp0 Wp1 Wp2 Wp3
    isplitl [HQ0 HQ1 HQ2 HQ3]; · iapply (four_gather c mQ) $$ HQ0 HQ1 HQ2 HQ3
    isplitl [Ws0 Ws1 Ws2 Ws3]; · iapply (four_gather c mQs) $$ Ws0 Ws1 Ws2 Ws3
    iapply (four_gather c mQd) $$ Wd0 Wd1 Wd2 Wd3
  isplitl [HX HA H1 H2]
  · isplitl [HX]; · iexact HX
    isplitl [HA]; · iexact HA
    isplitl [H1]; · iexact H1
    iexact H2
  isplitl [HOut]; · iexact HOut
  isplitr [HO]
  · isplitl [Zb]; · iexact Zb
    iapply (Entails.of_eq (cps _).symm)
    isplitl [Yx Zx]; · isplitl [Yx] <;> first | iexact Yx | iexact Zx
    isplitl [Ya Za]; · isplitl [Ya] <;> first | iexact Ya | iexact Za
    isplitl [Yp0 Zp0]; · isplitl [Yp0] <;> first | iexact Yp0 | iexact Zp0
    isplitl [Yp1 Zp1]; · isplitl [Yp1] <;> first | iexact Yp1 | iexact Zp1
    isplitl [Yp2 Zp2]; · isplitl [Yp2] <;> first | iexact Yp2 | iexact Zp2
    isplitl [Yp3 Zp3]; · isplitl [Yp3] <;> first | iexact Yp3 | iexact Zp3
    isplitl [Ys0 Zs0]; · isplitl [Ys0] <;> first | iexact Ys0 | iexact Zs0
    isplitl [Ys1 Zs1]; · isplitl [Ys1] <;> first | iexact Ys1 | iexact Zs1
    isplitl [Ys2 Zs2]; · isplitl [Ys2] <;> first | iexact Ys2 | iexact Zs2
    isplitl [Ys3 Zs3]; · isplitl [Ys3] <;> first | iexact Ys3 | iexact Zs3
    isplitl [Yd0 Zd0]; · isplitl [Yd0] <;> first | iexact Yd0 | iexact Zd0
    isplitl [Yd1 Zd1]; · isplitl [Yd1] <;> first | iexact Yd1 | iexact Zd1
    isplitl [Yd2 Zd2]; · isplitl [Yd2] <;> first | iexact Yd2 | iexact Zd2
    isplitl [Yd3] <;> first | iexact Yd3 | iexact Zd3
  iexact HO

end Cert.MoeProof

end
-- ==== Proof.Ghost.lean ====
/-
  The exchange's tokens and credits at the launch: every cell's invariant allocated, the cells of the copies dormant until
  the kernel opens them, each device given the duties it pays and the credits it waits with.
-/
module

public import proofs.«01_k».proof.Proof.Body

@[expose] public section

noncomputable section

namespace Cert.MoeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

/-! ## Moving a family from a device to its peers -/

/-- A device paired with a neighbour's number, seen from that neighbour; a device paired with a copy, seen from its target. -/
def acrossNb : Dev nD × Fin 3 ≃ Dev nD × Fin 3 :=
  Function.Involutive.toPerm (fun x => (nb x.1 x.2, x.2)) fun x => Prod.ext (nb_nb x.1 x.2) rfl
def acrossCp : Dev nD × Cp ≃ Dev nD × Cp :=
  Function.Involutive.toPerm (fun x => (peer x.1 x.2, x.2)) fun x => Prod.ext (peer_peer x.1 x.2) rfl

section Move

variable {M : Type} [URA M]

theorem move_nb (Φ : Dev nD → Fin 3 → sProp M) :
    (bigSep Finset.univ fun c => bigSep Finset.univ fun d => Φ c d) = bigSep Finset.univ fun c => bigSep Finset.univ fun d => Φ (nb c d) d := by
  rw [← bigSep_univ_prod (fun x : Dev nD × Fin 3 => Φ x.1 x.2), bigSep_univ_equiv acrossNb, bigSep_univ_prod]
  rfl

theorem move_cp (Φ : Dev nD → Cp → sProp M) :
    (bigSep Finset.univ fun c => bigSep Finset.univ fun p => Φ c p) = bigSep Finset.univ fun c => bigSep Finset.univ fun p => Φ (peer c p) p := by
  rw [← bigSep_univ_prod (fun x : Dev nD × Cp => Φ x.1 x.2), bigSep_univ_equiv acrossCp, bigSep_univ_prod]
  rfl

end Move

/-! ## The cells as families over the devices -/

theorem barCell_inj : Function.Injective (barCell : Dev nD → GSem nD τ sig) := fun _ _ h => congrArg (fun g : GSem nD τ sig => g.1.1) h
theorem sendS_inj : Function.Injective sendS := by decide +kernel
theorem recvS_inj : Function.Injective recvS := by decide +kernel
theorem sendCell_inj : Function.Injective fun x : Dev nD × Cp => sendCell x.1 x.2 := fun _ _ h =>
  Prod.ext (congrArg (fun g : GSem nD τ sig => g.1.1) h) (sendS_inj (SemLoc.dma.inj (congrArg Prod.snd h)))
theorem recvCell_inj : Function.Injective fun x : Dev nD × Cp => recvCell x.1 x.2 := fun _ _ h =>
  Prod.ext (congrArg (fun g : GSem nD τ sig => g.1.1) h) (recvS_inj (SemLoc.dma.inj (congrArg Prod.snd h)))

theorem disjoint_cells : Disjoint barCells dmaCells := by
  rw [Finset.disjoint_left]
  intro g h1 h2
  obtain ⟨c, -, rfl⟩ := Finset.mem_image.mp h1
  rcases Finset.mem_union.mp h2 with h | h <;> obtain ⟨x, -, h⟩ := Finset.mem_image.mp h
  · have := congrArg (fun g : GSem nD τ sig => role g.2) h
    rw [show role (sendCell x.1 x.2).2 = _ from role_send x.2] at this; cases this
  · have := congrArg (fun g : GSem nD τ sig => role g.2) h
    rw [show role (recvCell x.1 x.2).2 = _ from role_recv x.2] at this; cases this

theorem disjoint_dma : Disjoint (Finset.univ.image fun x : Dev nD × Cp => sendCell x.1 x.2) (Finset.univ.image fun x : Dev nD × Cp => recvCell x.1 x.2) := by
  rw [Finset.disjoint_left]
  intro g h1 h2
  obtain ⟨x, -, rfl⟩ := Finset.mem_image.mp h1
  obtain ⟨y, -, h⟩ := Finset.mem_image.mp h2
  have := congrArg (fun g : GSem nD τ sig => role g.2) h
  rw [show role (recvCell y.1 y.2).2 = _ from role_recv y.2, show role (sendCell x.1 x.2).2 = _ from role_send x.2] at this; cases this

section Families

variable {M : Type} [URA M]

/-- Two families side by side, as one. -/
theorem sep_all {I : Type} (s : Finset I) (Φ Ψ : I → sProp M) :
    bigSep s (fun i => iprop(Φ i ∗ Ψ i)) = iprop(bigSep s Φ ∗ bigSep s Ψ) := bigSep_sep s Φ Ψ

theorem over_image {A B : Type} [DecidableEq B] [Fintype A] {f : A → B} (hf : Function.Injective f) (Φ : B → sProp M) :
    bigSep (Finset.univ.image f) Φ = bigSep Finset.univ fun a => Φ (f a) := by
  rw [show (Finset.univ.image f : Finset B) = Finset.univ.map ⟨f, hf⟩ from (Finset.map_eq_image ⟨f, hf⟩ _).symm, BI.bigSep_map]
  rfl

theorem over_bar (Φ : GSem nD τ sig → sProp M) : bigSep barCells Φ = bigSep Finset.univ fun c : Dev nD => Φ (barCell c) := by
  unfold barCells; exact over_image barCell_inj Φ

theorem over_dma (Φ : GSem nD τ sig → sProp M) :
    bigSep dmaCells Φ = bigSep Finset.univ fun c : Dev nD => bigSep Finset.univ fun p : Cp => iprop(Φ (sendCell c p) ∗ Φ (recvCell c p)) := by
  unfold dmaCells
  rw [bigSep_union disjoint_dma, over_image sendCell_inj, over_image recvCell_inj, bigSep_univ_prod, bigSep_univ_prod, ← bigSep_sep]
  exact bigSep_congr fun c _ => (bigSep_sep _ _ _).symm

end Families

/-! ## The duties' tokens -/

/-- A device's duties' tokens: the barrier's three, one at each send cell, one at each receive cell. -/
abbrev Tok : Type := Fin 3 ⊕ (Cp ⊕ Cp)
def tokSem : Tok → SemLoc sig
  | .inl _ => .reg barS
  | .inr (.inl p) => .dma (sendS p)
  | .inr (.inr p) => .dma (recvS p)
def tokDuty : Tok → Fin 3
  | .inl d => d
  | .inr _ => 0

theorem tok_inj : Function.Injective fun t : Tok => (tokSem t, tokDuty t) := by decide +kernel

def toks : Finset (GSem nD τ sig × ℕ × Fin 3) :=
  Finset.univ.map ⟨fun x : Dev nD × Tok => (((x.1 : Thread nD τ), tokSem x.2), 0, tokDuty x.2), fun _ _ h =>
    Prod.ext (congrArg (fun t : GSem nD τ sig × ℕ × Fin 3 => t.1.1.1) h)
      (tok_inj (Prod.ext (congrArg (fun t : GSem nD τ sig × ℕ × Fin 3 => t.1.2) h) (congrArg (fun t : GSem nD τ sig × ℕ × Fin 3 => t.2.2) h)))⟩

/-- The tokens a device pays with: at its neighbours' barrier cells, at its own send cells and at its targets' receive cells. -/
def payTok (c : Dev nD) : sProp 𝕄 :=
  iprop((bigSep Finset.univ fun d : Fin 3 => dutyTok ER (barCell (nb c d)) 0 d)
    ∗ bigSep Finset.univ fun p : Cp => iprop(dutyTok ER (sendCell c p) 0 0 ∗ dutyTok ER (recvCell (peer c p) p) 0 0))

omit [FloatOps F] in
theorem toks_dealt : bigSep toks (fun x => (dutyTok ER x.1 x.2.1 x.2.2 : sProp 𝕄)) = bigSep Finset.univ fun c : Dev nD => payTok c := by
  unfold toks
  rw [BI.bigSep_map, bigSep_univ_prod]
  have h (c : Dev nD) : (bigSep Finset.univ fun t : Tok => (dutyTok ER ((c : Thread nD τ), tokSem t) 0 (tokDuty t) : sProp 𝕄))
      = iprop((bigSep Finset.univ fun d : Fin 3 => dutyTok ER (barCell c) 0 d)
        ∗ (bigSep Finset.univ fun p : Cp => dutyTok ER (sendCell c p) 0 0) ∗ bigSep Finset.univ fun p : Cp => dutyTok ER (recvCell c p) 0 0) := by
    rw [bigSep_univ_sum, bigSep_univ_sum]; rfl
  refine (bigSep_congr fun c _ => h c).trans ?_
  unfold payTok
  rw [sep_all, sep_all, sep_all, move_nb (fun c d => (dutyTok ER (barCell c) 0 d : sProp 𝕄)),
    move_cp (fun c p => (dutyTok ER (recvCell c p) 0 0 : sProp 𝕄)), ← sep_all]
  congr 1
  exact bigSep_congr fun c _ => (sep_all _ _ _).symm

/-! ## The credits -/

/-- What a device waits for: three units at its barrier cell, a landing at each of its receive cells. -/
def awaited (c : Dev nD) : CellTallies nD τ sig Unit := tallyAt (barCell c) () 3 + ∑ p : Cp, tallyAt (recvCell c p) () (amt p)

theorem owed_sum : (∑ c : Dev nD, owed c 0) = ∑ c : Dev nD, awaited c := by
  have h1 (c : Dev nD) : owed c 0 = (∑ d : Fin 3, tallyAt (barCell (nb c d)) () 1) + ∑ p : Cp, tallyAt (recvCell (peer c p) p) () (amt p) := by
    rw [owed_zero, Fintype.sum_sum_type]; rfl
  have h2 (c : Dev nD) : awaited c = (∑ _d : Fin 3, tallyAt (barCell c) () 1) + ∑ p : Cp, tallyAt (recvCell c p) () (amt p) := by
    unfold awaited
    rw [Fin.sum_univ_three, tallyAt_add, tallyAt_add]
  rw [Finset.sum_congr rfl fun c _ => h1 c, Finset.sum_congr rfl fun c _ => h2 c, Finset.sum_add_distrib, Finset.sum_add_distrib]
  congr 1
  · rw [← Fintype.sum_prod_type' (fun (c : Dev nD) (d : Fin 3) => (tallyAt (barCell (nb c d)) () 1 : CellTallies nD τ sig Unit)),
      ← Fintype.sum_prod_type' (fun (c : Dev nD) (_ : Fin 3) => (tallyAt (barCell c) () 1 : CellTallies nD τ sig Unit))]
    exact Equiv.sum_comp acrossNb fun x : Dev nD × Fin 3 => (tallyAt (barCell x.1) () 1 : CellTallies nD τ sig Unit)
  · rw [← Fintype.sum_prod_type' (fun (c : Dev nD) (p : Cp) => (tallyAt (recvCell (peer c p) p) () (amt p) : CellTallies nD τ sig Unit)),
      ← Fintype.sum_prod_type' (fun (c : Dev nD) (p : Cp) => (tallyAt (recvCell c p) () (amt p) : CellTallies nD τ sig Unit))]
    exact Equiv.sum_comp acrossCp fun x : Dev nD × Cp => (tallyAt (recvCell x.1 x.2) () (amt x.2) : CellTallies nD τ sig Unit)

theorem awaited_own (c : Dev nD) (g : GSem nD τ sig) (h : awaited c g ≠ 0) : g.1 = (c.tc : Thread nD τ) := by
  by_contra hn
  have hz (sm : SemLoc sig) (k : ℕ) : (tallyAt ((c : Thread nD τ), sm) () k : CellTallies nD τ sig Unit) g = 0 :=
    tallyAt_ne_cell (fun e => hn (by rw [e])) () k
  apply h
  unfold awaited
  rw [Pi.add_apply, Finset.sum_apply, hz, Finset.sum_eq_zero fun p _ => hz _ _, add_zero]

omit [FloatOps F] in
theorem credits (c : Dev nD) : (Pipeline.launchCred (fun c => owed c 0) c : sProp 𝕄)
    ⊢ iprop(cred (tallyAt (barCell c) () 3) ∗ bigSep Finset.univ fun p : Cp => cred (tallyAt (recvCell c p) () (amt p))) := by
  rw [Pipeline.launchCred_of_sum (fun c => owed c 0) awaited owed_sum awaited_own c]
  unfold awaited
  rw [← Pipeline.cred_finsetSum]
  exact (cred_add _ _).1

/-! ## What a device keeps until the kernel opens its cells -/

variable (G : Args F) (κ : GSem nD τ sig → ℕ)

/-- The records every device may consult. -/
def records : sProp 𝕄 := iprop((bigSep cells fun g => cellInv ER (rd G) (κ g) g) ∗ bigSep Finset.univ fun c : Dev nD => reached ER (barCell c) 0)

instance records_persistent : BI.Persistent (records G κ) := by unfold records; infer_instance

/-- A device's own share of the exchange: its place at its barrier, the rights to open its other cells, its tokens, and its credits. -/
def keep (c : Dev nD) : sProp 𝕄 :=
  iprop(atPos ER (barCell c) 0 ∅ 0 ∗ (bigSep Finset.univ fun p : Cp => iprop(openTok ER (sendCell c p) ∗ openTok ER (recvCell c p)))
    ∗ payTok c ∗ cred (tallyAt (barCell c) () 3) ∗ bigSep Finset.univ fun p : Cp => cred (tallyAt (recvCell c p) () (amt p)))

/-- A device's state of the exchange before the kernel: the records and its share. -/
def before (c : Dev nD) : sProp 𝕄 := iprop(∃ κ, records G κ ∗ keep c)

/-- And once its cells are open: all of `talk` but what it owes. -/
def ready (c : Dev nD) : sProp 𝕄 := iprop(∃ κ, pers G κ ∗ atPos ER (barCell c) 0 ∅ 0 ∗ cred (tallyAt (barCell c) () 3)
    ∗ (bigSep Finset.univ fun d : Fin 3 => iprop(dutyTok ER (barCell (nb c d)) 0 d ∗ reached ER (barCell (nb c d)) 0))
    ∗ (bigSep Finset.univ fun p : Cp => hand c p))

omit [FloatOps F] in
/-- A persistent fact copied to every member of a family. -/
theorem with_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by
    rw [show iprop(bigSep S (fun _ => R) ∗ bigSep S Φ) = bigSep S (fun i => iprop(R ∗ Φ i)) from (sep_all S _ _).symm]; exact bigSep_mono h)

theorem rec_inv {g : GSem nD τ sig} (h : g ∈ cells) : records G κ ⊢ cellInv ER (rd G) (κ g) g := by
  unfold records
  iintro ⟨H, -⟩
  iapply (show (bigSep cells fun g => cellInv ER (rd G) (κ g) g) ⊢ (cellInv ER (rd G) (κ g) g : sProp 𝕄) from bigSep_elim h); iexact H
theorem rec_bar (c : Dev nD) : records G κ ⊢ (reached ER (barCell c) 0 : sProp 𝕄) := by
  unfold records
  iintro ⟨-, H⟩
  iapply (show (bigSep Finset.univ fun c : Dev nD => reached ER (barCell c) 0) ⊢ (reached ER (barCell c) 0 : sProp 𝕄) from bigSep_elim (Finset.mem_univ c)); iexact H

/-- One copy's two cells opened with their counters. -/
theorem open_one (c : Dev nD) (p : Cp) :
    iprop(records G κ ∗ (iprop(openTok ER (sendCell c p) ∗ openTok ER (recvCell c p)) ∗ iprop(semVal (sendCell c p) 0 ∗ semVal (recvCell c p) 0)
        ∗ iprop(dutyTok ER (sendCell c p) 0 0 ∗ dutyTok ER (recvCell (peer c p) p) 0 0) ∗ cred (tallyAt (recvCell c p) () (amt p))))
      ⊢ (|={Set.univ}=> hand c p : sProp 𝕄) := by
  iintro ⟨#HR, ⟨HoS, HoV⟩, ⟨Hs, Hv⟩, ⟨HtS, HtV⟩, Hc⟩
  imod (Rounds.cell_open ER (rd G) (g := sendCell c p) (Set.mem_univ (κ (sendCell c p)))) $$ [HoS Hs] with ⟨HaS, #HrS⟩
  · isplitr; · iapply (rec_inv G κ (send_mem c p)); iexact HR
    isplitl [HoS] <;> iassumption
  imod (Rounds.cell_open ER (rd G) (g := recvCell c p) (Set.mem_univ (κ (recvCell c p)))) $$ [HoV Hv] with ⟨HaV, #HrV⟩
  · isplitr; · iapply (rec_inv G κ (recv_mem c p)); iexact HR
    isplitl [HoV] <;> iassumption
  imodintro
  unfold hand lane claim
  isplitl [HtS HtV]
  · isplitl [HtS]; · iexact HtS
    isplitr; · iexact HrS
    iexact HtV
  isplitl [HaV Hc]
  · isplitl [HaV] <;> iassumption
  isplitr; · iexact HrV
  iexact HaS

/-- All of a device's cells opened. -/
theorem open_all (c : Dev nD) :
    iprop(before G c ∗ (bigSep Finset.univ fun p : Cp => iprop(semVal (sendCell c p) 0 ∗ semVal (recvCell c p) 0)) ∗ levAts L lv)
      ⊢ (|={Set.univ}=> ready G c : sProp 𝕄) := by
  unfold before keep payTok
  iintro ⟨⟨%κ, #HR, HaB, Ho, ⟨HtB, Ht⟩, HcB, Hc⟩, Hz, #Hlev⟩
  imod (show iprop(records G κ ∗ bigSep Finset.univ fun p : Cp => iprop(iprop(openTok ER (sendCell c p) ∗ openTok ER (recvCell c p))
        ∗ iprop(semVal (sendCell c p) 0 ∗ semVal (recvCell c p) 0)
        ∗ iprop(dutyTok ER (sendCell c p) 0 0 ∗ dutyTok ER (recvCell (peer c p) p) 0 0) ∗ cred (tallyAt (recvCell c p) () (amt p))))
      ⊢ (|={Set.univ}=> bigSep Finset.univ fun p : Cp => hand c p : sProp 𝕄) from
        (with_all (R := records G κ) fun p _ => open_one G κ c p).trans (bigSep_fupd _ _)) $$ [Ho Hz Ht Hc] with Hh
  · isplitr; · iexact HR
    iapply (Entails.of_eq (sep_all _ _ _).symm); isplitl [Ho]; · iexact Ho
    iapply (Entails.of_eq (sep_all _ _ _).symm); isplitl [Hz]; · iexact Hz
    iapply (Entails.of_eq (sep_all _ _ _).symm); isplitl [Ht]; · iexact Ht
    iexact Hc
  imodintro
  unfold ready
  iexists κ
  isplitr
  · unfold pers
    isplitr
    · iapply (show records G κ ⊢ (bigSep cells fun g => cellInv ER (rd G) (κ g) g : sProp 𝕄) from by
        unfold records; iintro ⟨H, -⟩; iexact H); iexact HR
    iexact Hlev
  isplitl [HaB]; · iexact HaB
  isplitl [HcB]; · iexact HcB
  isplitr [Hh]
  · iapply (show iprop(records G κ ∗ bigSep Finset.univ fun d : Fin 3 => dutyTok ER (barCell (nb c d)) 0 d)
        ⊢ (bigSep Finset.univ fun d : Fin 3 => iprop(dutyTok ER (barCell (nb c d)) 0 d ∗ reached ER (barCell (nb c d)) 0) : sProp 𝕄) from
      with_all (R := records G κ) fun d _ => by
        iintro ⟨#HR, Ht⟩
        isplitl [Ht]; · iexact Ht
        iapply (rec_bar G κ (nb c d)); iexact HR)
    isplitr; · iexact HR
    iexact HtB
  iexact Hh

/-! ## The launch's update -/

omit [FloatOps F] in
/-- A resource as a family over the devices: all of it on one device. -/
theorem at_zero (X : sProp 𝕄) : (bigSep Finset.univ fun c : Dev nD => if c = 0 then X else iprop(emp)) = X := by
  rw [bigSep_univ_at _ (0 : Dev nD), if_pos rfl, bigSep_congr (s := Finset.univ.erase (0 : Dev nD)) (Ψ := fun _ => (BI.emp : sProp 𝕄))
      fun c hc => by rw [if_neg (Finset.ne_of_mem_erase hc)]; rfl, BI.bigSep_emp_const]
  exact BI.equiv_iff.mp sep_emp

/-- The exchange's launch element, with every barrier counter at zero and the credits, dealt to the devices. -/
theorem deal :
    iprop((bigSep Finset.univ fun c : Dev nD => semVal (barCell c) 0) ∗ BI.own (ER (launchOf barCells dmaCells toks))
        ∗ bigSep Finset.univ fun c : Dev nD => Pipeline.launchCred (fun c => owed c 0) c)
      ⊢ (|={Set.univ}=> bigSep Finset.univ fun c : Dev nD => before G c : sProp 𝕄) := by
  iintro ⟨Hv, Hu, Hc⟩
  imod (Rounds.fund_launch ER (rd G) disjoint_cells (fun g _ h => h) toks) $$ [Hv Hu] with ⟨%κ, -, #Hinv, #Hr, Hat, Hopen, Htok⟩
  · isplitl [Hv]
    · iapply (Entails.of_eq (over_bar fun g => (semVal g 0 : sProp 𝕄)).symm); iexact Hv
    · iexact Hu
  imodintro
  iapply (show iprop(records G κ ∗ bigSep Finset.univ fun c : Dev nD => keep c) ⊢ (bigSep Finset.univ fun c : Dev nD => before G c : sProp 𝕄) from
    with_all (R := records G κ) fun c _ => by unfold before; iintro ⟨HR, Hk⟩; iexists κ; isplitl [HR] <;> iassumption)
  isplitr
  · unfold records
    isplitr; · iexact Hinv
    iapply (Entails.of_eq (over_bar fun g => (reached ER g 0 : sProp 𝕄))); iexact Hr
  unfold keep
  iapply (Entails.of_eq (sep_all _ _ _).symm)
  isplitl [Hat]; · iapply (Entails.of_eq (over_bar fun g => (atPos ER g 0 ∅ 0 : sProp 𝕄))); iexact Hat
  iapply (Entails.of_eq (sep_all _ _ _).symm)
  isplitl [Hopen]; · iapply (Entails.of_eq (over_dma fun g => (openTok ER g : sProp 𝕄))); iexact Hopen
  iapply (Entails.of_eq (sep_all _ _ _).symm)
  isplitl [Htok]; · iapply (Entails.of_eq (toks_dealt (F := F))); iexact Htok
  iapply (show (bigSep Finset.univ fun c : Dev nD => Pipeline.launchCred (fun c => owed c 0) c)
    ⊢ (bigSep Finset.univ fun c : Dev nD => iprop(cred (tallyAt (barCell c) () 3) ∗ bigSep Finset.univ fun p : Cp => cred (tallyAt (recvCell c p) () (amt p))) : sProp 𝕄)
    from bigSep_mono fun c _ => credits c)
  iexact Hc

end Cert.MoeProof

end
-- ==== Proof.Run.lean ====
/-
  The run of @main on the four devices: the host's reshape and two casts, then the kernel entered with the exchange's
  state and left with every counter at zero; at any float values.
-/
module

public import proofs.«01_k».proof.Proof.Ghost
public import proofs.«01_k».proof.Proof.Gen.KernelIdeal.Frame
public import Idealize.ShloMosaic.Lib.Pipeline.RegionTalk
public import Idealize.ShloMosaic.Lib.Pipeline.Value

@[expose] public section

set_option maxRecDepth 16384

noncomputable section

namespace Cert.MoeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The staged arguments -/

/-- The four devices' arrays as the kernel finds them. -/
def args : Args F where
  x c := V m c main_arg0
  a c := V m c main_v1
  w1 c := V m c main_v2
  w2 c := V m c main_v3

omit [FloatOps F] in
theorem read_0 (c : Dev nD) (f : Buf (Elt F) ((c : Thread nD τ).loc main_arg0)) : (win0_0.blk t0_0).view.read (Elt F) f = f :=
  Memref.read_access_unit_zero (Elt F) main_arg0
    (show (fun a => (win0_0.index t0_0) a * main_arg0.ty.shape.size a) = fun _ => 0 from
      funext fun a => by fin_cases a <;> decide) (fun a => by fin_cases a <;> decide) f
omit [FloatOps F] in
theorem read_1 (c : Dev nD) (f : Buf (Elt F) ((c : Thread nD τ).loc main_v1)) : (win0_1.blk t0_0).view.read (Elt F) f = f :=
  Memref.read_access_unit_zero (Elt F) main_v1
    (show (fun a => (win0_1.index t0_0) a * main_v1.ty.shape.size a) = fun _ => 0 from
      funext fun a => by fin_cases a <;> decide) (fun a => by fin_cases a <;> decide) f
omit [FloatOps F] in
theorem read_2 (c : Dev nD) (f : Buf (Elt F) ((c : Thread nD τ).loc main_v2)) : (win0_2.blk t0_0).view.read (Elt F) f = f :=
  Memref.read_access_unit_zero (Elt F) main_v2
    (show (fun a => (win0_2.index t0_0) a * main_v2.ty.shape.size a) = fun _ => 0 from
      funext fun a => by fin_cases a <;> decide) (fun a => by fin_cases a <;> decide) f
omit [FloatOps F] in
theorem read_3 (c : Dev nD) (f : Buf (Elt F) ((c : Thread nD τ).loc main_v3)) : (win0_3.blk t0_0).view.read (Elt F) f = f :=
  Memref.read_access_unit_zero (Elt F) main_v3
    (show (fun a => (win0_3.index t0_0) a * main_v3.ty.shape.size a) = fun _ => 0 from
      funext fun a => by fin_cases a <;> decide) (fun a => by fin_cases a <;> decide) f
omit [FloatOps F] in
theorem read_4 (c : Dev nD) (f : Buf (Elt F) ((c : Thread nD τ).loc main_v4)) : (win0_4.blk t0_0).view.read (Elt F) f = f :=
  Memref.read_access_unit_zero (Elt F) main_v4
    (show (fun a => (win0_4.index t0_0) a * main_v4.ty.shape.size a) = fun _ => 0 from
      funext fun a => by fin_cases a <;> decide) (fun a => by fin_cases a <;> decide) f

theorem iblk_0 (c : Dev nD) : iblk m c 0 t0_0 = (args m).x c := read_0 c _
theorem iblk_1 (c : Dev nD) : iblk m c 1 t0_0 = (args m).a c := read_1 c _
theorem iblk_2 (c : Dev nD) : iblk m c 2 t0_0 = (args m).w1 c := read_2 c _
theorem iblk_3 (c : Dev nD) : iblk m c 3 t0_0 = (args m).w2 c := read_3 c _

/-! ## The kernel's proof data -/

/-- Nothing moves but the exchange: its state before the point, every counter at zero after it. -/
def dat0 (c : Dev nD) : Dat τ (Elt F) Unit ℕ UU ℕ cfg0 c where
  A w := V m c (Pipeline.arrRef spec0 w)
  after w t :=
    match w with
    | ⟨0, _⟩ => iblk m c 0 t
    | ⟨1, _⟩ => iblk m c 1 t
    | ⟨2, _⟩ => iblk m c 2 t
    | ⟨3, _⟩ => iblk m c 3 t
    | ⟨4, _⟩ => outV (args m) c
  Φ t := if t.val = 0 then iprop(scratch c ∗ (∃ r, prngReg c r) ∗ ready (args m) c) else iprop(scratch c ∗ (∃ r, prngReg c r) ∗ quiet c)
  q _ := fullShare
  owed t := if t.val = 0 then owed c 0 else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat0 m

theorem owed_first (c : Dev nD) : (dat0 m c).owed t0_0.castSucc = owed c 0 := by
  show (if (t0_0.castSucc : Fin (cfg0.N + 1)).val = 0 then owed c 0 else 0) = _; exact if_pos rfl
theorem owed_last (c : Dev nD) : (dat0 m c).owed t0_0.succ = 0 := by
  show (if (t0_0.succ : Fin (cfg0.N + 1)).val = 0 then owed c 0 else 0) = _; exact if_neg (Nat.succ_ne_zero _)

/-- What a device owes, as a point states it. -/
theorem at_point (c : Dev nD) (t : Fin (cfg0.N + 1)) (n : ℕ) (h : (dat0 m c).owed t = owed c n) :
    ow c n ⊢ ((dat0 m c).owesAt () t : sProp 𝕄) := by
  unfold ow Dat.owesAt Pipeline.owesWithin Dat.bound; rw [h, show (dat0 m c).recorded t = Set.univ from rfl]
  iintro ⟨%W, HO⟩; iexists W; isplitr; · ipureintro; exact fun _ _ => Or.inl trivial
  iexact HO
theorem of_point (c : Dev nD) (t : Fin (cfg0.N + 1)) (n : ℕ) (h : (dat0 m c).owed t = owed c n) :
    ((dat0 m c).owesAt () t : sProp 𝕄) ⊢ ow c n := by
  unfold ow Dat.owesAt Pipeline.owesWithin; rw [h]
  iintro ⟨%W, -, HO⟩; iexists W; iexact HO

theorem before_0 (c : Dev nD) (d) : (dat0 m c).before 0 t0_0 d = (args m).x c :=
  ((dat0 m c).before_fetched 0 t0_0 (fetch0_0 t0_0) d).trans (iblk_0 m c)
theorem before_1 (c : Dev nD) (d) : (dat0 m c).before 1 t0_0 d = (args m).a c :=
  ((dat0 m c).before_fetched 1 t0_0 (fetch0_1 t0_0) d).trans (iblk_1 m c)
theorem before_2 (c : Dev nD) (d) : (dat0 m c).before 2 t0_0 d = (args m).w1 c :=
  ((dat0 m c).before_fetched 2 t0_0 (fetch0_2 t0_0) d).trans (iblk_2 m c)
theorem before_3 (c : Dev nD) (d) : (dat0 m c).before 3 t0_0 d = (args m).w2 c :=
  ((dat0 m c).before_fetched 3 t0_0 (fetch0_3 t0_0) d).trans (iblk_3 m c)

/-- The body at the point. -/
theorem body0 (c : Dev nD) : BodyObligation (dat0 m c) defs₀ 𝒱₀ () Set.univ := fun t => by
  obtain rfl := fin_N0 t
  rw [bigSep_W0, bigSep_W0]
  rw [show (dat0 m c).Φ t0_0.castSucc = iprop(scratch c ∗ (∃ r, prngReg c r) ∗ ready (args m) c) from rfl,
    show (dat0 m c).Φ t0_0.succ = iprop(scratch c ∗ (∃ r, prngReg c r) ∗ quiet c) from rfl,
    show (dat0 m c).after 0 t0_0 = (args m).x c from iblk_0 m c, show (dat0 m c).after 1 t0_0 = (args m).a c from iblk_1 m c,
    show (dat0 m c).after 2 t0_0 = (args m).w1 c from iblk_2 m c, show (dat0 m c).after 3 t0_0 = (args m).w2 c from iblk_3 m c,
    show (dat0 m c).after 4 t0_0 = outV (args m) c from rfl]
  simp only [before_0, before_1, before_2, before_3]
  unfold ready
  iintro ⟨⟨Hs, Hp, ⟨%κ, HI, HaB, HcB, HtB, Hh⟩⟩, HO, ⟨%_, H0⟩, ⟨%_, H1⟩, ⟨%_, H2⟩, ⟨%_, H3⟩, ⟨%d, H4⟩⟩
  ihave HO := (of_point m c _ 0 (owed_first m c)) $$ HO
  iapply (body_run (args m) κ c)
  isplitr [Hp]
  · isplitl [Hs]; · iexact Hs
    isplitl [H0 H1 H2 H3]
    · unfold staged
      isplitl [H0]; · iexact H0
      isplitl [H1]; · iexact H1
      isplitl [H2]; · iexact H2
      iexact H3
    isplitl [H4]; · iapply (some_intro c mO _); iexact H4
    unfold talk
    isplitl [HI]; · iexact HI
    isplitl [HaB]; · iexact HaB
    isplitl [HcB]; · iexact HcB
    isplitl [HtB]; · iexact HtB
    isplitl [Hh]; · iexact Hh
    iexact HO
  unfold staged
  iintro ⟨Hs, ⟨H0, H1, H2, H3⟩, H4, Hq, HO⟩
  isplitl [Hs Hp Hq]
  · isplitl [Hs]; · iexact Hs
    isplitl [Hp]; · iexact Hp
    iexact Hq
  isplitl [HO]; · iapply (at_point m c _ 17 ((owed_last m c).trans (owed_done c).symm)); iexact HO
  isplitl [H0]; · iexact H0
  isplitl [H1]; · iexact H1
  isplitl [H2]; · iexact H2
  isplitl [H3]; · iexact H3
  iexact H4

/-! ## The kernel's own semaphores and scratch -/

/-- The send and the receive semaphores of the copies. -/
abbrev osem : Cp ⊕ Cp → SemLoc sig := fun | .inl p => .dma (sendS p) | .inr p => .dma (recvS p)

theorem own_facts : Pipeline.OwnSemFacts spec0 osem := by decide +kernel

omit [FloatOps F] in
theorem own_eq (c : Dev nD) : (Pipeline.ownSems0 osem c : sProp 𝕄)
    = bigSep Finset.univ fun p : Cp => iprop(semVal (sendCell c p) 0 ∗ semVal (recvCell c p) 0) := by
  unfold Pipeline.ownSems0
  rw [bigSep_univ_sum]
  exact (sep_all _ _ _).symm

omit [FloatOps F] in
theorem unscoped_eq (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

theorem unscoped_sem : ∀ sm : SemLoc sig, sm.isScoped .tc = false → sm = .reg barS := by decide +kernel

omit [FloatOps F] in
theorem some_whole (c : Dev nD) (b : Ref sig .tc) :
    (some_ c (Memref.whole b) : sProp 𝕄) = iprop(∃ f : Buf (Elt F) ((c : Thread nD τ).loc b), ((c : Thread nD τ).loc b) ↦{fullShare} f) := by
  unfold some_; simp only [owns_whole]

omit [FloatOps F] in
theorem scratch_eq (c : Dev nD) : (Pipeline.scopedRest (Ix := Unit) (Name := ℕ) (U := UU) (Lvl := ℕ) (Val := Elt F) spec0 c : sProp 𝕄) = scratch c := by
  rw [scopedRest0_eq]
  unfold scratch
  simp only [some_whole]

/-! ## The two segments -/

/-- A device's unscoped buffers; those among them that are no array of the kernel's. -/
def bufs : Finset (DevRef τ sig) := (StableHlo.tcRefs τ sig).filter fun b => ¬ b.isScoped
def rest : Finset (DevRef τ sig) := bufs \ Pipeline.arrRefs spec0

abbrev V₀ (c : Dev nD) : Valuation τ sig (Elt F) := fun b => m ((c : Dev nD), b)
/-- The buffers as the kernel finds them, and as it leaves them. -/
abbrev V₁ (c : Dev nD) : Valuation τ sig (Elt F) := StableHlo.after hostOps0 (V₀ m c)
abbrev V₂ (c : Dev nD) : Valuation τ sig (Elt F) := Function.update (V₁ m c) (Proc.devRef .tc main_v4) (outV (args m) c)

omit [FloatOps F] in
theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

omit [FloatOps F] in
theorem bufs_split (c : Dev nD) (W : Valuation τ sig (Elt F)) : (StableHlo.held (c : Thread nD τ) bufs W : sProp 𝕄)
    = iprop(StableHlo.held (c : Thread nD τ) (Pipeline.arrRefs spec0) W ∗ StableHlo.held (c : Thread nD τ) rest W) :=
  StableHlo.held_sub_split (c : Thread nD τ) (by decide +kernel) W

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

/-- What rides beside the host's operations. -/
def ride (c : Dev nD) : sProp 𝕄 := iprop(before (args m) c ∗ (∃ r, prngReg c r) ∗ ow c 0)

theorem ops_sub : ∀ op ∈ (hostOps0 : List (HloOp τ sig (Elt F))), op.bufs ⊆ bufs := fun op h => by
  simp only [List.mem_cons, List.mem_nil_iff, or_false] at h
  rcases h with rfl | rfl | rfl
  · show ({Proc.devRef .tc main_arg1, Proc.devRef .tc main_v1} : Finset (DevRef τ sig)) ⊆ bufs; decide
  · show ({Proc.devRef .tc main_arg2, Proc.devRef .tc main_v2} : Finset (DevRef τ sig)) ⊆ bufs; decide
  · show ({Proc.devRef .tc main_arg3, Proc.devRef .tc main_v3} : Finset (DevRef τ sig)) ⊆ bufs; decide

/-- The host's reshape and casts. -/
def seg0 : ℍ := Pipeline.HostSeg.ofOps _ _ _ _ _ bufs hostOps0 ops_sub
  (List.forall_iff_forall_mem.mp hostOps0_fresh) (V₀ m) (ride m)

theorem kit : Pipeline.PLaunchFacts (nD := nD) (τ := τ) (pcfgs (F := F)) 0 := launch0.toP

theorem hopen (c : Dev nD) : iprop(before (args m) c ∗ Pipeline.ownSems0 osem c ∗ levAts L lv) ⊢ (|={Set.univ}=> ready (args m) c : sProp 𝕄) := by
  rw [own_eq]; exact open_all (args m) c

theorem held_none (c : Dev nD) (W : Valuation τ sig (Elt F)) : (StableHlo.held (c.tc : Thread nD τ) ∅ W : sProp 𝕄) = BI.emp := by
  unfold StableHlo.held; exact BI.bigSep_empty

theorem hin (c : Dev nD) : iprop(Pipeline.scopedRest (Pipeline.pin (pcfgs (F := F)) adm 0).spec c ∗ (∃ r, prngReg c r)
    ∗ StableHlo.held (c.tc : Thread nD τ) ∅ (V₁ m c) ∗ ready (args m) c) ⊢ (pdats m 0 c).Φ 0 := by
  rw [show (pdats m 0 c).Φ 0 = iprop(scratch c ∗ (∃ r, prngReg c r) ∗ ready (args m) c) from rfl, held_none]
  iintro ⟨Hs, Hp, -, Hr⟩
  isplitl [Hs]; · iapply (Entails.of_eq (scratch_eq c)); iexact Hs
  isplitl [Hp] <;> iassumption

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ semVal (barCell c) 0) := by
  rw [show (pdats m 0 c).Φ (Fin.last _) = iprop(scratch c ∗ (∃ r, prngReg c r) ∗ quiet c) from rfl, held_none, own_eq]
  unfold quiet
  iintro ⟨Hs, Hp, Hb, Hq⟩
  isplitl [Hs]; · iapply (Entails.of_eq (scratch_eq c).symm); iexact Hs
  isplitl [Hp]; · iexact Hp
  isplitr; · iempintro
  isplitl [Hq] <;> iassumption

theorem dueLv_pos : ∀ u : Due, 0 < dueLv u := by decide +kernel
theorem stage_lv : ∀ (w : Fin 5) (s : Fin (win0 w).nbuf), lvR (role (.dma ((win0 w).sem s))) ≤ 0 := by decide +kernel

theorem cut (c : Dev nD) (t : Fin ((Pipeline.pin (pcfgs (F := F)) adm 0).N + 1)) (g : GSem nD τ sig) (i : Unit)
    (h : 0 < (pdats m 0 c).owed t g i) : i ∈ L g ∧ (0 : ℕ) < lv g i := by
  rw [show (pdats m 0 c).owed t = if t.val = 0 then owed c 0 else 0 from rfl] at h
  split at h
  · obtain ⟨u, -, rfl⟩ := owed_pos c 0 g i h
    refine ⟨by rw [L_due]; exact Finset.mem_singleton_self _, ?_⟩
    rw [lv_due]; exact dueLv_pos u
  · exact absurd h (Nat.lt_irrefl 0)

/-- The kernel leaves every other buffer as it finds it. -/
theorem keeps (c : Dev nD) (b : Ref sig .tc) (h : (Proc.devRef .tc b : DevRef τ sig) ≠ Proc.devRef .tc main_v4) :
    V₂ m c (Proc.devRef .tc b) = V₁ m c (Proc.devRef .tc b) := Function.update_of_ne h ..
theorem result (c : Dev nD) : V₂ m c (Proc.devRef .tc main_v4) = outV (args m) c := Function.update_self ..

/-- The result's array after the kernel. -/
theorem arr_4 (c : Dev nD) : (dat0 m c).arrAt 4 cfg0.N = outV (args m) c := by
  have h := (dat0 m c).read_blk_arrAt_eq_flushed 4
    (fun t t' _ _ hne => absurd ((fin_N0 t).trans (fin_N0 t').symm) hne) cfg0.N t0_0 t0_0.isLt (flush0_4 t0_0)
  exact (read_4 c _).symm.trans h

theorem share (c : Dev nD) (w : Fin 5) : (pdats m 0 c).share w = fullShare := by
  match w with
  | ⟨0, _⟩ => rfl
  | ⟨1, _⟩ => rfl
  | ⟨2, _⟩ => rfl
  | ⟨3, _⟩ => rfl
  | ⟨4, _⟩ => rfl

theorem hW (c : Dev nD) (w : Fin 5) : (pdats m 0 c).arrAt w 0 = V₁ m c (Proc.devRef .tc (Pipeline.arrRef (Pipeline.pin (pcfgs (F := F)) adm 0).spec w)) := rfl

theorem hW' (c : Dev nD) (w : Fin 5) : (pdats m 0 c).arrAt w (Pipeline.pin (pcfgs (F := F)) adm 0).N
    = V₂ m c (Proc.devRef .tc (Pipeline.arrRef (Pipeline.pin (pcfgs (F := F)) adm 0).spec w)) := by
  match w with
  | ⟨0, _⟩ => exact ((dat0 m c).arrAt_in 0 rfl _).trans (keeps m c main_arg0 (by decide)).symm
  | ⟨1, _⟩ => exact ((dat0 m c).arrAt_in 1 rfl _).trans (keeps m c main_v1 (by decide)).symm
  | ⟨2, _⟩ => exact ((dat0 m c).arrAt_in 2 rfl _).trans (keeps m c main_v2 (by decide)).symm
  | ⟨3, _⟩ => exact ((dat0 m c).arrAt_in 3 rfl _).trans (keeps m c main_v3 (by decide)).symm
  | ⟨4, _⟩ => exact (arr_4 m c).trans (result m c).symm

set_option backward.isDefEq.respectTransparency.types false in
def reg0 : ℝ𝕊 0 :=
  Pipeline.RegionSeg.ofTalk (pcfgs (F := F)) adm (pdats m) () defs₀ 𝒱₀ L lv 0 osem own_facts
    ∅ rest (Finset.empty_subset _) kit rfl (fun c => (body0 m c).loose)
    (fun _ => 0) (fun c => owed c 0) (fun c => (owed_first m c).trans (zero_add _).symm) (owed_last m) (fun _ => rfl) (share m)
    (V₁ m) (V₂ m) (fun _ b hb => Function.update_of_ne (fun h => absurd (h ▸ hb) (by decide +kernel)) ..)
    (before (args m)) (fun c => semVal (barCell c) 0) (ready (args m)) (fun c => semVal (barCell c) 0)
    (hopen m) (hin m) (hout m)
    (fun c => by iintro H; imodintro; iexact H)
    (fun _ => 0)
    ⟨fun c w s => by rw [L_tc]; exact Finset.mem_singleton_self _, fun _ w s => stage_lv w s, fun c t g i h => cut m c t g i h⟩
    (fun _ => iprop(emp))
    (hW m) (hW' m)

end Cert.MoeProof

end
-- ==== Proof.Main.lean ====
/-
  The whole execution: from any memory with every counter at zero, @main on the four devices ends with its arguments as they
  were, each result the exchange's sums (`outV`), and every counter at zero again; at any float values.
-/
module

public import proofs.«01_k».proof.Proof.Run

@[expose] public section

set_option maxRecDepth 16384

noncomputable section

namespace Cert.MoeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The program, as its two segments. -/
def segs : List (Pipeline.Seg (Name := ℕ) (U := UU) (pcfgs (F := F)) adm (pdats m) () defs₀ 𝒱₀ L lv) :=
  [.host (seg0 m), .region (reg0 m)]

theorem main_eq (c : Dev nD) : main (F := F) c = Pipeline.Seg.run (segs m) :=
  main_segs adm (pdats m) () 𝒱₀ L lv (seg0 m) (reg0 m) rfl c

/-- A device's state at the launch, and after @main. -/
def T₀ (c : Dev nD) : sProp 𝕄 := iprop(StableHlo.held (c : Thread nD τ) bufs (V₀ m c) ∗ ride m c)
def Tₙ (c : Dev nD) : sProp 𝕄 := iprop(StableHlo.held (c : Thread nD τ) bufs (V₂ m c) ∗ semVal (barCell c) 0)

theorem reg0_pre (c : Dev nD) : iprop(StableHlo.held (c : Thread nD τ) bufs (V₁ m c) ∗ ride m c) ⊢ (reg0 m).pre c := by
  show _ ⊢ iprop(StableHlo.held (c : Thread nD τ) (Pipeline.arrRefs spec0) (V₁ m c) ∗ (∃ r, prngReg c r)
    ∗ (StableHlo.held (c : Thread nD τ) rest (V₁ m c) ∗ emp) ∗ before (args m) c ∗ ∃ W, owes (c : Thread nD τ) (0 + owed c 0) W)
  unfold ride ow
  rw [bufs_split, zero_add]
  iintro ⟨⟨Ha, Hr⟩, Hb, Hp, HO⟩
  isplitl [Ha]; · iexact Ha
  isplitl [Hp]; · iexact Hp
  isplitl [Hr]
  · isplitl [Hr]; · iexact Hr
    iempintro
  isplitl [Hb] <;> iassumption

theorem reg0_post (c : Dev nD) : (reg0 m).post c ⊢ iprop(Tₙ m c ∗ ∃ W, owes (c : Thread nD τ) (0 : CellTallies nD τ sig Unit) W) := by
  show iprop(StableHlo.held (c : Thread nD τ) (Pipeline.arrRefs spec0) (V₂ m c) ∗ (∃ r, prngReg c r)
    ∗ (StableHlo.held (c : Thread nD τ) rest (V₂ m c) ∗ emp) ∗ semVal (barCell c) 0 ∗ ∃ W, owes (c : Thread nD τ) 0 W) ⊢ _
  unfold Tₙ
  rw [bufs_split]
  iintro ⟨Ha, -, ⟨Hr, -⟩, Hb, HO⟩
  isplitr [HO]
  · isplitr [Hb]
    · isplitl [Ha] <;> iassumption
    · iexact Hb
  · iexact HO

/-- What the exchange gets at the launch. -/
def given (c : Dev nD) : sProp 𝕄 := if c = 0 then BI.own (ER (launchOf barCells dmaCells toks)) else iprop(emp)

omit [FloatOps F] in
theorem prng_any (c : Dev nD) : (prngReg c (ρ c) : sProp 𝕄) ⊢ iprop(∃ r, prngReg c r) := by
  iintro H; iexists (ρ c); iexact H
omit [FloatOps F] in
theorem owes_any (c : Dev nD) : (owes (c : Thread nD τ) (owed c 0) ∅ : sProp 𝕄) ⊢ ow c 0 := by
  unfold ow; iintro H; iexists ∅; iexact H

/-- The devices' states from the launch. -/
theorem init : iprop((bigSep Finset.univ fun c : Dev nD =>
      iprop(unscopedBufs c (fun b => m ((c : Thread nD τ).loc b)) ∗ unscopedSems0 c ∗ owes (c : Thread nD τ) (owed c 0) ∅
        ∗ Pipeline.launchCred (fun c => owed c 0) c ∗ prngReg c (ρ c) ∗ given (F := F) c)) ∗ levAts L lv)
    ⊢ (|={Set.univ}=> bigSep Finset.univ (T₀ m) : sProp 𝕄) := by
  unfold T₀ ride
  simp only [sep_all]
  unfold given
  rw [at_zero]
  iintro ⟨⟨Hb, Hs, HO, Hc, Hp, Hu⟩, -⟩
  imod (deal (args m)) $$ [Hs Hu Hc] with Hk
  · isplitl [Hs]
    · iapply (show (bigSep Finset.univ fun c : Dev nD => (unscopedSems0 c : sProp 𝕄)) ⊢ bigSep Finset.univ fun c : Dev nD => semVal (barCell c) 0
        from bigSep_mono fun c _ => Entails.of_eq (unscoped_eq c))
      iexact Hs
    isplitl [Hu] <;> iassumption
  imodintro
  isplitl [Hb]
  · iapply (show (bigSep Finset.univ fun c : Dev nD => (unscopedBufs c (fun b => m ((c : Thread nD τ).loc b)) : sProp 𝕄))
        ⊢ bigSep Finset.univ fun c : Dev nD => StableHlo.held (c : Thread nD τ) bufs (V₀ m c)
      from bigSep_mono fun c _ => Entails.of_eq (unscopedBufs_held c (V₀ m c)))
    iexact Hb
  isplitl [Hk]; · iexact Hk
  isplitl [Hp]
  · iapply (show (bigSep Finset.univ fun c : Dev nD => (prngReg c (ρ c) : sProp 𝕄)) ⊢ bigSep Finset.univ fun c : Dev nD => iprop(∃ r, prngReg c r)
      from bigSep_mono fun c _ => prng_any ρ c)
    iexact Hp
  iapply (show (bigSep Finset.univ fun c : Dev nD => (owes (c : Thread nD τ) (owed c 0) ∅ : sProp 𝕄)) ⊢ bigSep Finset.univ fun c : Dev nD => ow c 0
    from bigSep_mono fun c _ => owes_any c)
  iexact HO

omit [FloatOps F] in
/-- The unscoped buffers, one by one. -/
theorem bufs_list (c : Dev nD) (W : Valuation τ sig (Elt F)) : (StableHlo.held (c : Thread nD τ) bufs W : sProp 𝕄)
    = iprop(((c : Thread nD τ).loc main_arg0 ↦{fullShare} W (Proc.devRef .tc main_arg0))
      ∗ ((c : Thread nD τ).loc main_arg1 ↦{fullShare} W (Proc.devRef .tc main_arg1))
      ∗ ((c : Thread nD τ).loc main_arg2 ↦{fullShare} W (Proc.devRef .tc main_arg2))
      ∗ ((c : Thread nD τ).loc main_arg3 ↦{fullShare} W (Proc.devRef .tc main_arg3))
      ∗ ((c : Thread nD τ).loc main_v1 ↦{fullShare} W (Proc.devRef .tc main_v1))
      ∗ ((c : Thread nD τ).loc main_v2 ↦{fullShare} W (Proc.devRef .tc main_v2))
      ∗ ((c : Thread nD τ).loc main_v3 ↦{fullShare} W (Proc.devRef .tc main_v3))
      ∗ ((c : Thread nD τ).loc main_v4 ↦{fullShare} W (Proc.devRef .tc main_v4))) := by
  unfold StableHlo.held
  rw [bigSep_eq_bigSepL_of_eq [Proc.devRef .tc main_arg0, Proc.devRef .tc main_arg1, Proc.devRef .tc main_arg2, Proc.devRef .tc main_arg3,
    Proc.devRef .tc main_v1, Proc.devRef .tc main_v2, Proc.devRef .tc main_v3, Proc.devRef .tc main_v4] (by decide) (by decide +kernel)]
  rfl

/-- The arguments end as they were. -/
theorem kept_0 (c : Dev nD) : V₂ m c (Proc.devRef .tc main_arg0) = m ((c : Thread nD τ).loc main_arg0) :=
  (keeps m c main_arg0 (by decide)).trans (V_main_arg0 m c)
theorem kept_1 (c : Dev nD) : V₂ m c (Proc.devRef .tc main_arg1) = m ((c : Thread nD τ).loc main_arg1) :=
  (keeps m c main_arg1 (by decide)).trans (V_main_arg1 m c)
theorem kept_2 (c : Dev nD) : V₂ m c (Proc.devRef .tc main_arg2) = m ((c : Thread nD τ).loc main_arg2) :=
  (keeps m c main_arg2 (by decide)).trans (V_main_arg2 m c)
theorem kept_3 (c : Dev nD) : V₂ m c (Proc.devRef .tc main_arg3) = m ((c : Thread nD τ).loc main_arg3) :=
  (keeps m c main_arg3 (by decide)).trans (V_main_arg3 m c)

/-- What one device's memory holds at the end. -/
def Ends (c : Dev nD) (s : MemSt nD τ sig (Elt F)) : Prop :=
  s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_v4) = outV (args m) c

set_option backward.isDefEq.respectTransparency.types false in
/-- Every execution ends, with the arguments kept, the sums in the results, and no counter raised. -/
theorem run_main : θ_run defs (onTc (τ := τ) (main (F := F))) ⟨m, fun _ => 0, ρ⟩
    (fun r => (∀ c : Dev nD, Ends m c r.2) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := fun c => owed c 0) (hL := L_of_ne) (G := given)
    (u₀ := (initOf (Pipeline.cells (Pipeline.pin pcfgs adm) cellOf_inj) (Pipeline.launchToks (Pipeline.pin pcfgs adm) cellOf_inj),
      launchOf barCells dmaCells toks))
    (hu₀ := by
      unfold given
      rw [at_zero]
      iintro Hu
      ihave H := (ownU_pair _ _) $$ Hu
      icases H with ⟨HP, HX⟩
      imodintro
      isplitl [HP]; · iexact HP
      iexact HX)
    (T₀ := T₀ m) (Tₙ := Tₙ m)
    (hch := ⟨fun c => .rfl, fun c => reg0_pre m c, fun c => reg0_post m c⟩)
    (hinit := init m ρ)
    (QY := fun c s => Ends m c s ∧ s.sem (barCell c) = 0)
    (hfin := fun c s' => by
      unfold Tₙ
      rw [bufs_list, kept_0, kept_1, kept_2, kept_3, result]
      iintro ⟨⟨⟨H0, H1, H2, H3, -, -, -, H4⟩, Hb⟩, HSI⟩
      icombine HSI H0 gives %h0
      icombine HSI H1 gives %h1
      icombine HSI H2 gives %h2
      icombine HSI H3 gives %h3
      icombine HSI H4 gives %h4
      icombine HSI Hb gives %hb
      imodintro
      isplitr
      · ipureintro
        exact ⟨⟨Buf.eq_of_forall_mem_univ h0, Buf.eq_of_forall_mem_univ h1, Buf.eq_of_forall_mem_univ h2,
          Buf.eq_of_forall_mem_univ h3, Buf.eq_of_forall_mem_univ h4⟩, by simpa using hb⟩
      iexact HSI)
    (hQ := fun s h hs => ⟨fun c => (h c).1, sem_eq_zero hs fun c sm hsm => by
      obtain rfl := unscoped_sem sm hsm
      exact (h c).2⟩)

end Cert.MoeProof

end
-- ==== Proof.Frames.lean ====
/-
  The frames: the printed kernel's and its ideal form's are one run, read at either float values; the reference's is the run
  of its host operations.
-/
module

public import proofs.«01_k».proof.Proof.Main
public import proofs.«01_k».proof.Defs
public import proofs.«01_k».proof.Proof.Gen.Kernel
public import proofs.«01_k».proof.Proof.Gen.ReferenceIdeal.Run

@[expose] public section

noncomputable section

namespace Cert.MoeProof

open Idealize.ShloMosaic Idealize.SL.Sem

variable {F : FTy → Type} [FloatOps F]

/-- The two programs are printed alike: the same bodies, the same host code. -/
theorem body_same : Cert.Kernel.cc0_body (F := F) = Cert.KernelIdeal.cc0_body (F := F) := rfl
theorem bodies_same : Cert.Kernel.defs₀ (F := F) = Cert.KernelIdeal.defs₀ (F := F) := by
  unfold Cert.Kernel.defs₀ Cert.KernelIdeal.defs₀
  refine congrArg Defs.onTc ?_
  funext l a
  match l, a with
  | 0, (t, s) => rw [body_same]
theorem defs_same : Cert.Kernel.defs (F := F) = Cert.KernelIdeal.defs (F := F) :=
  congrArg (Pipeline.defs (Cert.KernelIdeal.pcfgs (F := F))) bodies_same
theorem main_same : Cert.Kernel.main (F := F) = Cert.KernelIdeal.main (F := F) := rfl

theorem frame_kernel : Cert.quiescent_Kernel := fun m ρ _ => by
  rw [defs_same, main_same]
  exact (θ_run (Cert.KernelIdeal.defs (F := Bits)) _ _).mono
    (fun r h => ⟨fun c => ⟨(h.1 c).1, (h.1 c).2.1, (h.1 c).2.2.1, (h.1 c).2.2.2.1⟩, h.2⟩) (run_main (F := Bits) m ρ)

theorem frame_kernelIdeal : Cert.quiescent_KernelIdeal := fun m ρ _ =>
  (θ_run Cert.KernelIdeal.defs _ _).mono
    (fun _ h => ⟨fun c => ⟨(h.1 c).1, (h.1 c).2.1, (h.1 c).2.2.1, (h.1 c).2.2.2.1⟩, h.2⟩) (run_main (F := Ideal) m ρ)

/-- The reference declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.MoeProof

end
-- ==== Proof.Algebraic.lean ====
/-
  The kernel computes the reference: when the devices' arguments are their blocks of the reference's, the kernel's executions
  end with each device's block of the reference's result, over the extended reals.
-/
module

public import proofs.«01_k».proof.Proof.Value
public import proofs.«01_k».proof.Proof.Reference
public import proofs.«01_k».proof.Proof.Frames
public import Idealize.ShloMosaic.Lib.ValueLayoutCasts

@[expose] public section

noncomputable section

namespace Cert.MoeProof

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ)

/-! ## The arrays as the kernel finds them -/

theorem args_x (c : Dev nD) : (args m).x c = m ((c : Thread nD τ).loc main_arg0) := V_main_arg0 m c
theorem args_a (c : Dev nD) :
    (args m).a c = shapeCast S512x1 (m ((c : Thread nD τ).loc main_arg1) : S512.Idx → BitVec 32) shapeCasts_S512_S512x1 := by
  show after hostOps0 (fun b => m (c, b)) main_v1 = _
  simp only [hostOps0]; after_results_simp <;> rfl
theorem args_w1 (c : Dev nD) :
    (args m).w1 c = truncf (F := Ideal) .bf16 (m ((c : Thread nD τ).loc main_arg2) : FVec Ideal S2x512x1024 .f32) bitsLt_bf16_f32 := by
  show after hostOps0 (fun b => m (c, b)) main_v2 = _
  simp only [hostOps0]; after_results_simp <;> rfl
theorem args_w2 (c : Dev nD) :
    (args m).w2 c = truncf (F := Ideal) .bf16 (m ((c : Thread nD τ).loc main_arg3) : FVec Ideal S2x1024x512 .f32) bitsLt_bf16_f32 := by
  show after hostOps0 (fun b => m (c, b)) main_v3 = _
  simp only [hostOps0]; after_results_simp <;> rfl

/-! ## Blocks of the whole arrays -/

/-- The second mesh coordinate is the block's index on the cut axis. -/
theorem lin_y : ∀ c : Dev nD, Layout.meshLin [2, 2] c.val [1] = c.val % 2 := by decide

variable (x : Vec Ideal ⟨2, ![1024, 512]⟩ .f32) (a : Vec Ideal ⟨1, ![1024]⟩ .i32)
  (u : Vec Ideal ⟨3, ![4, 512, 1024]⟩ .f32) (v : Vec Ideal ⟨3, ![4, 1024, 512]⟩ .f32)

/-- Block `c` of an array of 1024 rows; -/
theorem rows_apply {α : Type} (f : (⟨2, ![1024, 512]⟩ : Shape).Idx → α) (c : Dev nD) (i j : Fin 512) :
    (Layout.blockN ⟨2, ![512, 512]⟩ ⟨2, ![1024, 512]⟩ (Layout.meshBlock [2, 2] ![[1], []] c) f : _ → α) (ix2 i j) = f (ix2 (row c i) j) := by
  rw [Layout.blockN_apply]
  refine congrArg f (funext fun b => Fin.ext ?_)
  match b with
  | ⟨0, _⟩ => show Layout.meshLin [2, 2] c.val [1] * 512 + i.val = 512 * (c.val % 2) + i.val; rw [lin_y]; omega
  | ⟨1, _⟩ => show 0 * 512 + j.val = j.val; omega
/-- of a vector of 1024; -/
theorem entries_apply {α : Type} (f : (⟨1, ![1024]⟩ : Shape).Idx → α) (c : Dev nD) (i : Fin 512) :
    (Layout.blockN ⟨1, ![512]⟩ ⟨1, ![1024]⟩ (Layout.meshBlock [2, 2] ![[1]] c) f : _ → α) (ix1 i) = f (ix1 (row c i)) := by
  rw [Layout.blockN_apply]
  refine congrArg f (funext fun b => Fin.ext ?_)
  match b with
  | ⟨0, _⟩ => show Layout.meshLin [2, 2] c.val [1] * 512 + i.val = 512 * (c.val % 2) + i.val; rw [lin_y]; omega
/-- of four matrices of either shape. -/
theorem first_apply {α : Type} (f : (⟨3, ![4, 512, 1024]⟩ : Shape).Idx → α) (c : Dev nD) (e : Fin 2) (d : Fin 512) (k : Fin 1024) :
    (Layout.blockN ⟨3, ![2, 512, 1024]⟩ ⟨3, ![4, 512, 1024]⟩ (Layout.meshBlock [2, 2] ![[1], [], []] c) f : _ → α) (ix3 e d k) = f (ix3 (exp c e) d k) := by
  rw [Layout.blockN_apply]
  refine congrArg f (funext fun b => Fin.ext ?_)
  match b with
  | ⟨0, _⟩ => show Layout.meshLin [2, 2] c.val [1] * 2 + e.val = 2 * (c.val % 2) + e.val; rw [lin_y]; omega
  | ⟨1, _⟩ => show 0 * 512 + d.val = d.val; omega
  | ⟨2, _⟩ => show 0 * 1024 + k.val = k.val; omega
theorem second_apply {α : Type} (f : (⟨3, ![4, 1024, 512]⟩ : Shape).Idx → α) (c : Dev nD) (e : Fin 2) (k : Fin 1024) (j : Fin 512) :
    (Layout.blockN ⟨3, ![2, 1024, 512]⟩ ⟨3, ![4, 1024, 512]⟩ (Layout.meshBlock [2, 2] ![[1], [], []] c) f : _ → α) (ix3 e k j) = f (ix3 (exp c e) k j) := by
  rw [Layout.blockN_apply]
  refine congrArg f (funext fun b => Fin.ext ?_)
  match b with
  | ⟨0, _⟩ => show Layout.meshLin [2, 2] c.val [1] * 2 + e.val = 2 * (c.val % 2) + e.val; rw [lin_y]; omega
  | ⟨1, _⟩ => show 0 * 1024 + k.val = k.val; omega
  | ⟨2, _⟩ => show 0 * 512 + j.val = j.val; omega

/-- The devices' arguments are their blocks of the reference's. -/
def Cuts : Prop := ∀ c : Dev nD,
  m ((c : Thread nD τ).loc main_arg0) = Layout.blockN ⟨2, ![512, 512]⟩ ⟨2, ![1024, 512]⟩ (Layout.meshBlock [2, 2] ![[1], []] c) x
  ∧ m ((c : Thread nD τ).loc main_arg1) = Layout.blockN ⟨1, ![512]⟩ ⟨1, ![1024]⟩ (Layout.meshBlock [2, 2] ![[1]] c) a
  ∧ m ((c : Thread nD τ).loc main_arg2) = Layout.blockN ⟨3, ![2, 512, 1024]⟩ ⟨3, ![4, 512, 1024]⟩ (Layout.meshBlock [2, 2] ![[1], [], []] c) u
  ∧ m ((c : Thread nD τ).loc main_arg3) = Layout.blockN ⟨3, ![2, 1024, 512]⟩ ⟨3, ![4, 1024, 512]⟩ (Layout.meshBlock [2, 2] ![[1], [], []] c) v

variable {m x a u v}

theorem parts (h : Cuts m x a u v) : Parts (Ref.whole x a u v) (args m) where
  x c i d := by rw [args_x, (h c).1]; exact rows_apply x c i d
  a c i := by rw [args_a, (h c).2.1]; exact (shapeCast_a_a1_apply _ _ i 0).trans (entries_apply a c i)
  w1 c e d k := by rw [args_w1, (h c).2.2.1]; exact first_apply u c e d k
  w2 c e k j := by rw [args_w2, (h c).2.2.2]; exact second_apply v c e k j

/-- A device's result is its block of the reference's. -/
theorem result_eq (h : Cuts m x a u v) (c : Dev nD) :
    outV (args m) c = Layout.blockN ⟨2, ![512, 512]⟩ ⟨2, ![1024, 512]⟩ (Layout.meshBlock [2, 2] ![[1], []] c) (Ref.res x a u v) := by
  funext i
  obtain ⟨p, q, rfl⟩ : ∃ p q : Fin 512, i = ix2 p q := ⟨i 0, i 1, eq_ix2 i⟩
  rw [outV_apply (parts h), rows_apply, Ref.res_apply]

/-- The value claim. -/
theorem algebraic : Cert.algebraic_KernelIdeal_ReferenceIdeal := fun m g m' g' _ h =>
  ⟨Ref.res (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)),
    (θ_run Cert.KernelIdeal.defs _ _).mono
      (fun _ r c => ⟨(r.1 c).2.2.2.2.trans (result_eq h c), (r.1 c).1, (r.1 c).2.1, (r.1 c).2.2.1, (r.1 c).2.2.2.1⟩)
      (run_main (F := Ideal) m g),
    (θ_run Cert.ReferenceIdeal.defs _ _).mono (fun _ r => r 0) (Ref.run_res m' g')⟩

end Cert.MoeProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.MoeProof.frame_kernel, Cert.MoeProof.frame_kernelIdeal, Cert.MoeProof.frame_reference, trivial,
  Cert.MoeProof.algebraic⟩

end Cert.Proof

end
